-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x768 : Shape := ⟨2, ![32768, 768]⟩
abbrev S64x768 : Shape := ⟨2, ![64, 768]⟩
abbrev S64 : Shape := ⟨1, ![64]⟩
abbrev S1x64 : Shape := ⟨2, ![1, 64]⟩
abbrev S1 : Shape := ⟨1, ![1]⟩
abbrev S_ : Shape := ⟨0, ![]⟩
abbrev S768x64 : Shape := ⟨2, ![768, 64]⟩
abbrev S768x128 : Shape := ⟨2, ![768, 128]⟩
abbrev S64x64 : Shape := ⟨2, ![64, 64]⟩
abbrev S64x128 : Shape := ⟨2, ![64, 128]⟩
abbrev S128x128 : Shape := ⟨2, ![128, 128]⟩
abbrev S64x1 : Shape := ⟨2, ![64, 1]⟩
abbrev S1x64x1x1 : Shape := ⟨4, ![1, 64, 1, 1]⟩
abbrev S1x64x64x1 : Shape := ⟨4, ![1, 64, 64, 1]⟩
abbrev S8x128 : Shape := ⟨2, ![8, 128]⟩
abbrev S2 : Shape := ⟨1, ![2]⟩
abbrev S32768x64 : Shape := ⟨2, ![32768, 64]⟩
abbrev S4096x768 : Shape := ⟨2, ![4096, 768]⟩
abbrev S4096x64 : Shape := ⟨2, ![4096, 64]⟩
abbrev S4096x128 : Shape := ⟨2, ![4096, 128]⟩
abbrev S4096 : Shape := ⟨1, ![4096]⟩
abbrev S4096x1 : Shape := ⟨2, ![4096, 1]⟩

abbrev nBuf : Space → Nat
  | .hbm => 81
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64x768, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S768x64, .f32⟩
  | .hbm, ⟨22, _⟩ => ⟨S768x64, .f32⟩
  | .hbm, ⟨23, _⟩ => ⟨S768x64, .f32⟩
  | .hbm, ⟨24, _⟩ => ⟨S768x64, .f32⟩
  | .hbm, ⟨25, _⟩ => ⟨S768x128, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x128, .f32⟩
  | .hbm, ⟨39, _⟩ => ⟨S64x128, .f32⟩
  | .hbm, ⟨40, _⟩ => ⟨S128x128, .f32⟩
  | .hbm, ⟨41, _⟩ => ⟨S64, .f32⟩
  | .hbm, ⟨42, _⟩ => ⟨S64x1, .f32⟩
  | .hbm, ⟨43, _⟩ => ⟨S1x64x1x1, .f32⟩
  | .hbm, ⟨44, _⟩ => ⟨S1x64x64x1, .f32⟩
  | .hbm, ⟨45, _⟩ => ⟨S64x64, .f32⟩
  | .hbm, ⟨46, _⟩ => ⟨S_, .f32⟩
  | .hbm, ⟨47, _⟩ => ⟨S8x128, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S8x128, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S8x128, .f32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S8x128, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S8x128, .f32⟩
  | .hbm, ⟨72, _⟩ => ⟨S_, .f32⟩
  | .hbm, ⟨73, _⟩ => ⟨S_, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S2, .i32⟩
  | .hbm, ⟨78, _⟩ => ⟨S64, .f32⟩
  | .hbm, ⟨79, _⟩ => ⟨S8x128, .f32⟩
  | .hbm, ⟨80, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S768x128, .f32⟩
  | .local _ .vmem, ⟨3, _⟩ => ⟨S128x128, .f32⟩
  | .local _ .vmem, ⟨4, _⟩ => ⟨S64x64, .f32⟩
  | .local _ .vmem, ⟨5, _⟩ => ⟨S8x128, .f32⟩
  | .local _ .vmem, ⟨6, _⟩ => ⟨S4096x64, .f32⟩
  | .local _ .vmem, ⟨7, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_c : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_10 : Ref sig .tc := ⟨.hbm, 60, rfl⟩
abbrev main_v34 : Ref sig .tc := ⟨.hbm, 61, rfl⟩
abbrev main_c_11 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_12 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_14 : Ref sig .tc := ⟨.hbm, 73, rfl⟩
abbrev main_v43 : Ref sig .tc := ⟨.hbm, 74, rfl⟩
abbrev main_c_15 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x768 : Shape := ⟨2, ![32768, 768]⟩
abbrev S64x768 : Shape := ⟨2, ![64, 768]⟩
abbrev S64 : Shape := ⟨1, ![64]⟩
abbrev S1x64 : Shape := ⟨2, ![1, 64]⟩
abbrev S1 : Shape := ⟨1, ![1]⟩
abbrev S768x64 : Shape := ⟨2, ![768, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1 : Shape := ⟨2, ![64, 1]⟩
abbrev S1x1 : Shape := ⟨2, ![1, 1]⟩
abbrev S32768x2 : Shape := ⟨2, ![32768, 2]⟩
abbrev S32768x2x1 : Shape := ⟨3, ![32768, 2, 1]⟩
abbrev S32768x2x2 : Shape := ⟨3, ![32768, 2, 2]⟩

abbrev nBuf : Space → Nat
  | .hbm => 137
  | .vmem => 0
  | .smem => 0
  | _ => 0

abbrev hbmTy0_0 (i : Nat) : BufTy := match i % 128 with
  | 0 => ⟨S32768x768, .f32⟩
  | 1 => ⟨S64x768, .f32⟩
  | 2 => ⟨S64x768, .f32⟩
  | 3 => ⟨S64, .f32⟩
  | 4 => ⟨S64, .f32⟩
  | 5 => ⟨S64, .f32⟩
  | 6 => ⟨S1x64, .f32⟩
  | 7 => ⟨S1, .f32⟩
  | 8 => ⟨S1, .f32⟩
  | 9 => ⟨S64, .f32⟩
  | 10 => ⟨S768x64, .f32⟩
  | 11 => ⟨S32768x64, .f32⟩
  | 12 => ⟨S768x64, .f32⟩
  | 13 => ⟨S32768x64, .f32⟩
  | 14 => ⟨S1x64, .f32⟩
  | 15 => ⟨S32768x64, .f32⟩
  | 16 => ⟨S32768x64, .f32⟩
  | 17 => ⟨S_, .f32⟩
  | 18 => ⟨S32768, .f32⟩
  | 19 => ⟨S32768x1, .f32⟩
  | 20 => ⟨S_, .f32⟩
  | 21 => ⟨S32768x1, .f32⟩
  | 22 => ⟨S32768x1, .f32⟩
  | 23 => ⟨S_, .i32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S32768x64, .f32⟩
  | 31 => ⟨S32768x64, .f32⟩
  | 32 => ⟨S32768x64, .f32⟩
  | 33 => ⟨S_, .f32⟩
  | 34 => ⟨S_, .f32⟩
  | 35 => ⟨S_, .f32⟩
  | 36 => ⟨S_, .f32⟩
  | 37 => ⟨S32768, .f32⟩
  | 38 => ⟨S32768x1, .f32⟩
  | 39 => ⟨S32768x1, .f32⟩
  | 40 => ⟨S32768x1, .f32⟩
  | 41 => ⟨S_, .f32⟩
  | 42 => ⟨S_, .i1⟩
  | 43 => ⟨S_, .f32⟩
  | 44 => ⟨S_, .f32⟩
  | 45 => ⟨S32768x1, .f32⟩
  | 46 => ⟨S32768x1, .f32⟩
  | 47 => ⟨S32768x64, .f32⟩
  | 48 => ⟨S32768x64, .f32⟩
  | 49 => ⟨S_, .f32⟩
  | 50 => ⟨S32768x1, .f32⟩
  | 51 => ⟨S32768x1, .f32⟩
  | 52 => ⟨S32768x1, .f32⟩
  | 53 => ⟨S32768x64, .f32⟩
  | 54 => ⟨S32768x64, .f32⟩
  | 55 => ⟨S1x64, .f32⟩
  | 56 => ⟨S32768x64, .f32⟩
  | 57 => ⟨S32768x64, .f32⟩
  | 58 => ⟨S1x64, .f32⟩
  | 59 => ⟨S32768x64, .f32⟩
  | 60 => ⟨S32768x64, .f32⟩
  | 61 => ⟨S_, .f32⟩
  | 62 => ⟨S32768x64, .f32⟩
  | 63 => ⟨S32768x64, .f32⟩
  | 64 => ⟨S32768x64, .f32⟩
  | 65 => ⟨S_, .f32⟩
  | 66 => ⟨S32768x64, .f32⟩
  | 67 => ⟨S32768x64, .f32⟩
  | 68 => ⟨S32768x64, .f32⟩
  | 69 => ⟨S32768x64, .f32⟩
  | 70 => ⟨S64x1, .f32⟩
  | 71 => ⟨S32768x1, .f32⟩
  | 72 => ⟨S1x1, .f32⟩
  | 73 => ⟨S32768x1, .f32⟩
  | 74 => ⟨S32768x1, .f32⟩
  | 75 => ⟨S32768x1, .f32⟩
  | 76 => ⟨S32768x1, .f32⟩
  | 77 => ⟨S_, .f32⟩
  | 78 => ⟨S32768x1, .f32⟩
  | 79 => ⟨S32768x1, .f32⟩
  | 80 => ⟨S_, .f32⟩
  | 81 => ⟨S32768x1, .f32⟩
  | 82 => ⟨S32768x1, .f32⟩
  | 83 => ⟨S_, .f32⟩
  | 84 => ⟨S_, .f32⟩
  | 85 => ⟨S_, .f32⟩
  | 86 => ⟨S_, .f32⟩
  | 87 => ⟨S64, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S32768x64, .f32⟩
  | 94 => ⟨S32768x64, .f32⟩
  | 95 => ⟨S32768x64, .f32⟩
  | 96 => ⟨S32768x64, .f32⟩
  | 97 => ⟨S_, .f32⟩
  | 98 => ⟨S_, .f32⟩
  | 99 => ⟨S1, .f32⟩
  | 100 => ⟨S1, .f32⟩
  | 101 => ⟨S1x1, .f32⟩
  | 102 => ⟨S32768x64, .f32⟩
  | 103 => ⟨S32768x64, .f32⟩
  | 104 => ⟨S32768x2, .f32⟩
  | 105 => ⟨S32768x2, .i32⟩
  | 106 => ⟨S32768, .i32⟩
  | 107 => ⟨S32768x1, .i32⟩
  | 108 => ⟨S_, .f32⟩
  | 109 => ⟨S32768x64, .f32⟩
  | 110 => ⟨S_, .i32⟩
  | 111 => ⟨S32768x1, .i32⟩
  | 112 => ⟨S32768x1, .i1⟩
  | 113 => ⟨S_, .i32⟩
  | 114 => ⟨S32768x1, .i32⟩
  | 115 => ⟨S32768x1, .i32⟩
  | 116 => ⟨S32768x1, .i32⟩
  | 117 => ⟨S_, .i32⟩
  | 118 => ⟨S32768x2, .i32⟩
  | 119 => ⟨S32768x2, .i1⟩
  | 120 => ⟨S_, .i32⟩
  | 121 => ⟨S32768x2, .i32⟩
  | 122 => ⟨S32768x2, .i32⟩
  | 123 => ⟨S32768x2, .i32⟩
  | 124 => ⟨S32768x2, .i32⟩
  | 125 => ⟨S32768x2x1, .i32⟩
  | 126 => ⟨S32768x2x1, .i32⟩
  | 127 => ⟨S32768x2x2, .i32⟩
  | _ => ⟨S32768x768, .f32⟩

abbrev hbmTy0_1 (i : Nat) : BufTy := match i % 128 with
  | 0 => ⟨S32768x64, .f32⟩
  | 1 => ⟨S_, .f32⟩
  | 2 => ⟨S32768, .f32⟩
  | 3 => ⟨S32768x1, .f32⟩
  | 4 => ⟨S_, .f32⟩
  | 5 => ⟨S32768x1, .f32⟩
  | 6 => ⟨S32768x1, .f32⟩
  | 7 => ⟨S32768x64, .f32⟩
  | 8 => ⟨S32768x64, .f32⟩
  | _ => ⟨S32768x768, .f32⟩

abbrev hbmTy (i : Nat) : BufTy := match i / 128 with
  | 0 => hbmTy0_0 i
  | 1 => hbmTy0_1 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_2 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_4 : Ref sig .tc := ⟨.hbm, 77, rfl⟩
abbrev main_v39 : Ref sig .tc := ⟨.hbm, 78, rfl⟩
abbrev main_v40 : Ref sig .tc := ⟨.hbm, 79, rfl⟩
abbrev main_cst_5 : Ref sig .tc := ⟨.hbm, 80, rfl⟩
abbrev main_v41 : Ref sig .tc := ⟨.hbm, 81, rfl⟩
abbrev main_v42 : Ref sig .tc := ⟨.hbm, 82, rfl⟩
abbrev main_cst_6 : Ref sig .tc := ⟨.hbm, 83, rfl⟩
abbrev main_v43 : Ref sig .tc := ⟨.hbm, 84, rfl⟩
abbrev main_cst_7 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_8 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_9 : Ref sig .tc := ⟨.hbm, 97, rfl⟩
abbrev main_call1_v0 : Ref sig .tc := ⟨.hbm, 98, rfl⟩
abbrev main_call1_v1 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_values : Ref sig .tc := ⟨.hbm, 104, rfl⟩
abbrev main_indices : Ref sig .tc := ⟨.hbm, 105, rfl⟩
abbrev main_v58 : Ref sig .tc := ⟨.hbm, 106, rfl⟩
abbrev main_v59 : Ref sig .tc := ⟨.hbm, 107, rfl⟩
abbrev main_cst_10 : Ref sig .tc := ⟨.hbm, 108, rfl⟩
abbrev main_v60 : Ref sig .tc := ⟨.hbm, 109, rfl⟩
abbrev main_c_11 : Ref sig .tc := ⟨.hbm, 110, rfl⟩
abbrev main_v61 : Ref sig .tc := ⟨.hbm, 111, rfl⟩
abbrev main_v62 : Ref sig .tc := ⟨.hbm, 112, rfl⟩
abbrev main_c_12 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_13 : Ref sig .tc := ⟨.hbm, 117, rfl⟩
abbrev main_v66 : Ref sig .tc := ⟨.hbm, 118, rfl⟩
abbrev main_v67 : Ref sig .tc := ⟨.hbm, 119, rfl⟩
abbrev main_c_14 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_15 : Ref sig .tc := ⟨.hbm, 129, rfl⟩
abbrev main_v76 : Ref sig .tc := ⟨.hbm, 130, rfl⟩
abbrev main_v77 : Ref sig .tc := ⟨.hbm, 131, rfl⟩
abbrev main_cst_16 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩

abbrev nD : Nat := 1
abbrev τ : Topo := Topo.v7x

variable {F : FTy → Type} [FloatOps F]
-- ==== Proof.Ext.lean ====
/-
  Facts about the extended reals as the ideal values use them: the numbers the program's literals denote, when a quotient is zero,
  and how a factor moves out of a sum.
-/
module

public import Idealize.ShloMosaic.PureOps.Ideal

@[expose] public section

noncomputable section

namespace Router

open Idealize.ShloMosaic

/-! ## The literals -/

/-- The word `0x00000000` is zero. -/
theorem lit_zero : Ideal.ofBits .f32 0x00000000#32 = 0 := by simp [Ideal.ofBits, Ideal.ieee]

/-- The word `0x3F800000` is one. -/
theorem lit_one : Ideal.ofBits .f32 0x3F800000#32 = 1 := by
  simp [Ideal.ofBits, Ideal.ieee]
  rw [← EReal.coe_mul, ← EReal.coe_one]
  norm_num

/-- The word `0x42800000` is sixty-four. -/
theorem lit_64 : Ideal.ofBits .f32 0x42800000#32 = ((64 : ℝ) : EReal) := by

  simp [Ideal.ofBits, Ideal.ieee]
  rw [← EReal.coe_mul]
  norm_num

/-- The word `0xFF800000` is the least extended real. -/
theorem lit_bot : Ideal.ofBits .f32 0xFF800000#32 = ⊥ := by simp [Ideal.ofBits, Ideal.ieee]

/-- The word `0x7F800000` is the greatest extended real. -/
theorem lit_top : Ideal.ofBits .f32 0x7F800000#32 = ⊤ := by simp [Ideal.ofBits, Ideal.ieee]

/-- The word `0x3727C5AC`, the small number under the root, is a positive real. -/
theorem lit_eps5 : ∃ r : ℝ, 0 < r ∧ Ideal.ofBits .f32 0x3727C5AC#32 = (r : EReal) := by
  refine ⟨_, ?_, by simp [Ideal.ofBits, Ideal.ieee]; rfl⟩
  norm_num

/-- The word `0x358637BD`, the small number added to a sum of weights, is a positive real. -/
theorem lit_eps6 : ∃ r : ℝ, 0 < r ∧ Ideal.ofBits .f32 0x358637BD#32 = (r : EReal) := by
  refine ⟨_, ?_, by simp [Ideal.ofBits, Ideal.ieee]; rfl⟩
  norm_num

/-- The word `0x3DCCCCCD`, a tenth rounded, is a positive real, and `0xBDCCCCCD` is its negative. -/
theorem lit_tenth : ∃ r : ℝ, 0 < r ∧ Ideal.ofBits .f32 0x3DCCCCCD#32 = (r : EReal) ∧ Ideal.ofBits .f32 0xBDCCCCCD#32 = ((-r : ℝ) : EReal) := by
  refine ⟨_, ?_, by simp [Ideal.ofBits, Ideal.ieee]; rfl, by simp [Ideal.ofBits, Ideal.ieee]⟩
  norm_num

end Router
end
-- ==== Proof.RowGate.lean ====
/-
  One token's row of gated scores, computed two ways: the mean and the variance by sums of entries and of squares, against the mean
  and the mean square deviation; the smooth rectifier by the error function and by its complement; the temperature folded into the
  weights and the bias, or multiplied in last. The two rows agree, or hold only infinities and zeros.
-/
module

public import proofs.«01_k».proof.Proof.Ext
public import Idealize.ShloMosaic.PureOps.Ideal.Laws

@[expose] public section

noncomputable section

namespace Router

open Idealize.ShloMosaic

/-! ## Sums of extended reals -/

/-- A factor that is a nonnegative real moves out of a sum. -/
theorem sum_mul_real {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- A sum with an infinite term is infinite. -/
theorem sum_infinite {ι : Type} (s : Finset ι) (f : ι → EReal) (h : ∃ i ∈ s, f i = ⊤ ∨ f i = ⊥) : ∑ i ∈ s, f i = ⊤ ∨ ∑ i ∈ s, f i = ⊥ := by
  classical
  obtain ⟨i, hi, h⟩ := h
  rw [← Finset.add_sum_erase s f hi]
  generalize ∑ x ∈ s.erase i, f x = y
  rcases h with h | h <;> rw [h]
  · induction y <;> simp
  · simp

/-- A real sum read as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## Normalising a row -/

/-- Dividing by sixty-four is multiplying by its inverse. -/
theorem div_64 (x : EReal) : Ideal.div x ((64 : ℝ) : EReal) = x * ((1 / 64 : ℝ) : EReal) := by
  unfold Ideal.div
  rw [if_neg (by exact_mod_cast (by norm_num : (64 : ℝ) ≠ 0)), ← EReal.coe_inv, one_div]

/-- The variance as the mean of the squares less the square of the mean. -/
def varSq (h : Fin 64 → EReal) : EReal :=
  (∑ k, h k * h k * ((1 / 64 : ℝ) : EReal)) - (∑ k, h k * ((1 / 64 : ℝ) : EReal)) * (∑ k, h k * ((1 / 64 : ℝ) : EReal))

/-- The row less its mean, over the root of its variance and `ε`, with the variance from the squares. -/
def normSq (ε : EReal) (h : Fin 64 → EReal) (j : Fin 64) : EReal :=
  Ideal.div (h j - ∑ k, h k * ((1 / 64 : ℝ) : EReal)) (Ideal.sqrt (varSq h + ε))

/-- The mean of a row. -/
def mean (h : Fin 64 → EReal) : EReal := Ideal.div (∑ k, h k) ((64 : ℝ) : EReal)

/-- The variance as the mean square deviation. -/
def varDev (h : Fin 64 → EReal) : EReal := Ideal.div (∑ k, (h k - mean h) * (h k - mean h)) ((64 : ℝ) : EReal)

/-- The same row, with the variance from the deviations. -/
def normDev (ε : EReal) (h : Fin 64 → EReal) (j : Fin 64) : EReal := Ideal.div (h j - mean h) (Ideal.sqrt (varDev h + ε))

/-- The two means agree. -/
theorem mean_eq (h : Fin 64 → EReal) : ∑ k, h k * ((1 / 64 : ℝ) : EReal) = mean h := by
  rw [sum_mul_real _ _ (by norm_num), mean, div_64]

/-- For finite entries the two variances agree. -/
theorem var_eq (r : Fin 64 → ℝ) : varSq (fun k => (r k : EReal)) = varDev (fun k => (r k : EReal)) := by
  have hm : mean (fun k => (r k : EReal)) = (((∑ k, r k) * (1 / 64) : ℝ) : EReal) := by
    rw [mean, div_64, coe_sum, ← EReal.coe_mul]
  unfold varSq varDev
  rw [mean_eq (fun k => (r k : EReal)), hm, div_64]
  simp only [← EReal.coe_mul, ← EReal.coe_sub]
  rw [coe_sum, coe_sum, ← EReal.coe_sub, ← EReal.coe_mul]
  congr 1
  have e : ∀ c : ℝ, ∑ k, (r k - c) * (r k - c) = ∑ k, r k * r k - 2 * c * ∑ k, r k + 64 * (c * c) := fun c => by
    have : ∀ k : Fin 64, (r k - c) * (r k - c) = r k * r k - 2 * c * r k + c * c := fun k => by ring
    simp only [this, Finset.sum_add_distrib, Finset.sum_sub_distrib, ← Finset.mul_sum, Finset.sum_const, Finset.card_univ,
      Fintype.card_fin, nsmul_eq_mul]
    push_cast
    ring
  rw [e, ← Finset.sum_mul]
  ring

/-- The two normalised rows agree, whatever the entries: with an infinite entry both are zero. -/
theorem norm_eq (ε : ℝ) (h : Fin 64 → EReal) (j : Fin 64) : normSq (ε : EReal) h j = normDev (ε : EReal) h j := by
  by_cases hf : ∀ k, ∃ r : ℝ, h k = (r : EReal)
  · choose r hr using hf
    obtain rfl : h = fun k => (r k : EReal) := funext hr
    unfold normSq normDev
    rw [mean_eq, var_eq]
  · have hinf : mean h = ⊤ ∨ mean h = ⊥ := by
      push Not at hf
      obtain ⟨k, hk⟩ := hf
      have hk : h k = ⊤ ∨ h k = ⊥ := by
        generalize h k = y at hk
        induction y with
        | bot => exact Or.inr rfl
        | top => exact Or.inl rfl
        | coe r => exact absurd rfl (hk r)
      have : (0 : ℝ) < 1 / 64 := by norm_num
      unfold mean
      rw [div_64]
      rcases sum_infinite Finset.univ h ⟨k, Finset.mem_univ _, hk⟩ with e | e <;> rw [e]
      · exact Or.inl (EReal.top_mul_coe_of_pos this)
      · exact Or.inr (EReal.bot_mul_coe_of_pos this)
    have hsq : mean h * mean h = ⊤ := by rcases hinf with e | e <;> rw [e] <;> simp
    have hz : ∀ x y : EReal, (y = ⊤ ∨ y = ⊥) → Ideal.div x y = 0 := by
      rintro x y (rfl | rfl) <;> simp [Ideal.div]
    have hdev : varDev h = ⊤ := by
      have e : ∀ k, (h k - mean h) * (h k - mean h) = ⊤ := fun k => by
        rcases hinf with e | e <;> rw [e] <;> generalize h k = y <;> induction y <;> simp
      unfold varDev
      rw [div_64]
      simp only [e]
      have : ∑ _k : Fin 64, (⊤ : EReal) = ⊤ := by
        rw [Finset.sum_const, Finset.card_univ, Fintype.card_fin]
        have : ∀ n : ℕ, (n + 1) • (⊤ : EReal) = ⊤ := fun n => by
          induction n with
          | zero => simp
          | succ n ih => rw [succ_nsmul, ih]; rfl
        exact this 63
      rw [this]
      exact EReal.top_mul_coe_of_pos (by norm_num)
    unfold normSq normDev varSq
    rw [mean_eq, hsq, EReal.sub_top, EReal.bot_add, hdev, EReal.top_add_coe]
    show Ideal.div _ ⊥ = Ideal.div _ ⊤
    rw [hz _ _ (Or.inr rfl), hz _ _ (Or.inl rfl)]

/-! ## The smooth rectifier -/

/-- The rectifier by the error function is the one by its complement. -/
theorem gelu_eq (a c x : EReal) : a * x * (1 + Ideal.erf (x * c)) = a * x * Ideal.erfc (-x * c) := by
  rw [EReal.neg_mul, Ideal.erfc_neg]

/-! ## The temperature -/

/-- The extended reals that are infinite or zero. -/
def Corner (x : EReal) : Prop := x = ⊤ ∨ x = ⊥ ∨ x = 0

/-- A product with such a number is such a number, -/
theorem Corner.mul_left {x : EReal} (h : Corner x) (y : EReal) : Corner (y * x) := by
  unfold Corner at h ⊢
  rcases h with rfl | rfl | rfl
  · rcases lt_trichotomy y 0 with h | rfl | h
    · exact Or.inr (Or.inl (EReal.mul_top_of_neg h))
    · simp
    · exact Or.inl (EReal.mul_top_of_pos h)
  · rcases lt_trichotomy y 0 with h | rfl | h
    · exact Or.inl (EReal.mul_bot_of_neg h)
    · simp
    · exact Or.inr (Or.inl (EReal.mul_bot_of_pos h))
  · simp

/-- on either side, -/
theorem Corner.mul_right {x : EReal} (h : Corner x) (y : EReal) : Corner (x * y) := mul_comm y x ▸ h.mul_left y

/-- so is a sum of two, -/
theorem Corner.add {x y : EReal} (h : Corner x) (k : Corner y) : Corner (x + y) := by
  unfold Corner at *
  rcases h with rfl | rfl | rfl <;> rcases k with rfl | rfl | rfl <;> simp

/-- and a sum of any number. -/
theorem Corner.sum {ι : Type} (s : Finset ι) (f : ι → EReal) (h : ∀ i, Corner (f i)) : Corner (∑ i ∈ s, f i) := by
  classical
  induction s using Finset.induction_on with
  | empty => exact Or.inr (Or.inr rfl)
  | insert a s ha ih => rw [Finset.sum_insert ha]; exact (h a).add ih

/-- The greatest extended real is one. -/
theorem corner_top : Corner ⊤ := Or.inl rfl

/-- The gated score with the temperature `t` folded into the weights and the bias. -/
def gateFolded {n : ℕ} (r : ℝ) (x w : Fin n → EReal) (l cap t : EReal) : EReal :=
  (∑ d, x d * (w d * t) + ((-r : ℝ) : EReal) * l * t) * cap

/-- The gated score with the temperature multiplied in last. -/
def gatePlain {n : ℕ} (r : ℝ) (x w : Fin n → EReal) (l cap t : EReal) : EReal :=
  (∑ d, x d * w d - (r : EReal) * l) * cap * t

/-- At a temperature that is a nonnegative real the two agree. -/
theorem gate_eq {n : ℕ} (r : ℝ) (x w : Fin n → EReal) (l cap : EReal) {t : ℝ} (ht : 0 ≤ t) :
    gateFolded r x w l cap (t : EReal) = gatePlain r x w l cap (t : EReal) := by
  unfold gateFolded gatePlain
  have e : ∑ d, x d * (w d * (t : EReal)) = (∑ d, x d * w d) * (t : EReal) := by
    rw [← sum_mul_real _ _ ht]
    exact Finset.sum_congr rfl fun d _ => (mul_assoc _ _ _).symm
  rw [e, ← EReal.right_distrib_of_nonneg_of_ne_top (EReal.coe_nonneg.2 ht) (EReal.coe_ne_top t), EReal.coe_neg, EReal.neg_mul,
    ← sub_eq_add_neg, mul_right_comm]

/-- At the infinite temperature both are infinite or zero. -/
theorem gate_corner {n : ℕ} (r : ℝ) (x w : Fin n → EReal) (l cap : EReal) :
    Corner (gateFolded r x w l cap ⊤) ∧ Corner (gatePlain r x w l cap ⊤) := by
  constructor
  · exact ((Corner.sum _ _ fun d => (corner_top.mul_left _).mul_left _).add (corner_top.mul_left _)).mul_right _
  · exact corner_top.mul_left _

end Router
end
-- ==== Proof.RowPick.lean ====
/-
  The two greatest entries of a row of sixty-four extended reals, found twice: by two rounds of "take the maximum, find the
  first place that holds it, put the least value there", and by a stable sort. Both are described by the same two places.
-/
module

public import Idealize.ShloMosaic.Lib.SortPrefix
public import Idealize.ShloMosaic.PureOps.Ideal

@[expose] public section

noncomputable section

namespace Router

open Idealize.ShloMosaic

/-- Place `p` is the first of the places satisfying `S` at which `g` is greatest among those places. -/
structure FirstMax (S : Fin 64 → Prop) (g : Fin 64 → EReal) (p : Fin 64) : Prop where
  mem : S p
  le : ∀ j, S j → g j ≤ g p
  lt : ∀ j, S j → j < p → g j < g p

/-- Where some place satisfies `S` there is a first greatest one. -/
theorem FirstMax.exists_of {S : Fin 64 → Prop} (g : Fin 64 → EReal) (h : ∃ j, S j) : ∃ p, FirstMax S g p := by
  classical
  obtain ⟨j0, h0⟩ := h
  obtain ⟨m, hm, hmax⟩ := Finset.exists_max_image (Finset.univ.filter S) g ⟨j0, by simp [h0]⟩
  obtain ⟨p, hp, hmin⟩ := Finset.exists_min_image (Finset.univ.filter fun j => S j ∧ g j = g m) id ⟨m, by simpa using hm⟩
  simp only [Finset.mem_filter, Finset.mem_univ, true_and, id] at hm hmax hp hmin
  refine ⟨p, hp.1, fun j hj => hp.2 ▸ hmax j hj, fun j hj hlt => ?_⟩
  refine lt_of_le_of_ne (hp.2 ▸ hmax j hj) fun e => ?_
  exact absurd (hmin j ⟨hj, e.trans hp.2⟩) (not_le.2 hlt)

/-! ## The rounds -/

/-- The greatest entry of a row. -/
def rowMax (g : Fin 64 → EReal) : EReal := Finset.univ.fold max ⊥ g

/-- The least number of a place whose entry is the row's greatest, as an extended real. -/
def rowArg (g : Fin 64 → EReal) : EReal :=
  Finset.univ.fold min ⊤ fun j : Fin 64 => if g j = rowMax g then ((j.val : ℝ) : EReal) else ((64 : ℝ) : EReal)

/-- The row with the first greatest entry put to the least value. -/
def rowRest (g : Fin 64 → EReal) (j : Fin 64) : EReal := if ((j.val : ℝ) : EReal) = rowArg g then ⊥ else g j

/-- The row of routing weights by the rounds, each entry divided by the two greatest and `ε`. -/
def rowRounds (ε : EReal) (g : Fin 64 → EReal) (j : Fin 64) : EReal :=
  Ideal.div
    (if ((j.val : ℝ) : EReal) = rowArg g then rowMax g
      else if ((j.val : ℝ) : EReal) = rowArg (rowRest g) then rowMax (rowRest g) else 0)
    (rowMax g + rowMax (rowRest g) + ε)

/-- The row's greatest entry is the one at a first greatest place. -/
theorem rowMax_eq {g : Fin 64 → EReal} {p : Fin 64} (h : FirstMax (fun _ => True) g p) : rowMax g = g p := by
  unfold rowMax
  refine le_antisymm (Finset.fold_max_le _ |>.2 ⟨bot_le, fun j _ => h.le j trivial⟩) ?_
  exact (Finset.le_fold_max _).2 (Or.inr ⟨p, Finset.mem_univ _, le_rfl⟩)

/-- Two places have equal numbers only if they are one place. -/
theorem place_inj {j p : Fin 64} : ((j.val : ℝ) : EReal) = ((p.val : ℝ) : EReal) ↔ j = p := by
  rw [EReal.coe_eq_coe_iff, Nat.cast_inj, Fin.val_inj]

/-- The least number found is that of the first greatest place. -/
theorem rowArg_eq {g : Fin 64 → EReal} {p : Fin 64} (h : FirstMax (fun _ => True) g p) : rowArg g = ((p.val : ℝ) : EReal) := by
  unfold rowArg
  rw [rowMax_eq h]
  refine le_antisymm ((Finset.fold_min_le _).2 (Or.inr ⟨p, Finset.mem_univ _, by rw [if_pos rfl]⟩)) ?_
  refine (Finset.le_fold_min _).2 ⟨le_top, fun j _ => ?_⟩
  split
  · next e =>
    have : p ≤ j := not_lt.1 fun hlt => (h.lt j trivial hlt).ne e
    exact EReal.coe_le_coe_iff.2 (Nat.cast_le.2 this)
  · have := p.isLt
    exact EReal.coe_le_coe_iff.2 (by exact_mod_cast this.le)

/-- What is left of the row after the first round. -/
theorem rowRest_eq {g : Fin 64 → EReal} {p : Fin 64} (h : FirstMax (fun _ => True) g p) (j : Fin 64) :
    rowRest g j = if j = p then ⊥ else g j := by
  unfold rowRest
  rw [rowArg_eq h]
  exact if_congr place_inj rfl rfl

/-- The second greatest entry is the greatest off the first place. -/
theorem rowMax_rest {g : Fin 64 → EReal} {p q : Fin 64} (h : FirstMax (fun _ => True) g p) (k : FirstMax (· ≠ p) g q) :
    rowMax (rowRest g) = g q := by
  unfold rowMax
  refine le_antisymm ((Finset.fold_max_le _).2 ⟨bot_le, fun j _ => ?_⟩) ?_
  · rw [rowRest_eq h]
    split
    · exact bot_le
    · next e => exact k.le j e
  · exact (Finset.le_fold_max _).2 (Or.inr ⟨q, Finset.mem_univ _, by rw [rowRest_eq h, if_neg k.mem]⟩)

/-- Above the least value, the second round finds the first greatest place off the first one. -/
theorem rowArg_rest {g : Fin 64 → EReal} {p q : Fin 64} (h : FirstMax (fun _ => True) g p) (k : FirstMax (· ≠ p) g q) (hq : g q ≠ ⊥) :
    rowArg (rowRest g) = ((q.val : ℝ) : EReal) := by
  refine rowArg_eq ⟨trivial, fun j _ => ?_, fun j _ hlt => ?_⟩
  · rw [rowRest_eq h, rowRest_eq h, if_neg k.mem]
    split
    · exact bot_le
    · next e => exact k.le j e
  · rw [rowRest_eq h, rowRest_eq h, if_neg k.mem]
    split
    · exact bot_lt_iff_ne_bot.2 hq
    · next e => exact k.lt j e hlt

/-! ## The sort -/

/-- The order a stable sort of the row, greatest first, compares places by. -/
def rowBefore (g : Fin 64 → EReal) (j k : Fin 64) : Bool := decide (g k < g j)

/-- The order with equal entries settled by the place. -/
def rowBefore' (g : Fin 64 → EReal) (j k : Fin 64) : Bool := decide (g k < g j ∨ (g j = g k ∧ j < k))

/-- Settling equal entries by the place makes the order strict and total. -/
theorem rowBefore'_total (g : Fin 64 → EReal) : StrictTotalBefore (rowBefore' g) where
  irrefl a := by simp [rowBefore']
  trans a b c hab hbc := by
    simp only [rowBefore', decide_eq_true_eq] at hab hbc ⊢
    rcases hab with h | ⟨e, h⟩ <;> rcases hbc with h' | ⟨e', h'⟩
    · exact Or.inl (h'.trans h)
    · exact Or.inl (e' ▸ h)
    · exact Or.inl (e ▸ h')
    · exact Or.inr ⟨e.trans e', h.trans h'⟩
  total a b hne := by
    simp only [rowBefore', decide_eq_true_eq]
    rcases lt_trichotomy (g a) (g b) with h | h | h
    · exact Or.inr (Or.inl h)
    · rcases lt_or_gt_of_ne hne with hlt | hgt
      · exact Or.inl (Or.inr ⟨h, hlt⟩)
      · exact Or.inr (Or.inr ⟨h.symm, hgt⟩)
    · exact Or.inl (Or.inl h)

/-- A stable sort of places in increasing order does not ask how equal entries are settled. -/
theorem stableSort_rowBefore (g : Fin 64 → EReal) (l : List (Fin 64)) (hl : l.Pairwise (· < ·)) :
    stableSort (rowBefore g) l = stableSort (rowBefore' g) l := by
  induction l with
  | nil => rfl
  | cons a l ih =>
    obtain ⟨ha, hl⟩ := List.pairwise_cons.1 hl
    unfold stableSort
    rw [ih hl]
    refine insertBefore_congr _ _ _ _ fun b hb => ?_
    have hab : a < b := ha b ((perm_stableSort _ l).mem_iff.1 hb)
    unfold rowBefore rowBefore'
    refine decide_eq_decide.2 ⟨Or.inl, fun h => h.elim id fun h => absurd h.2 hab.not_gt⟩

/-- The sorted row's first two places are the first greatest one and the first greatest off it. -/
theorem sortedFrom_rowBefore {g : Fin 64 → EReal} {p q : Fin 64} (h : FirstMax (fun _ => True) g p) (k : FirstMax (· ≠ p) g q) :
    sortedFrom (rowBefore g) 0 = p ∧ sortedFrom (rowBefore g) 1 = q := by
  have e : sortedFrom (rowBefore g) = sortedFrom (rowBefore' g) := by
    have : sortPositions 64 (rowBefore g) = sortPositions 64 (rowBefore' g) :=
      stableSort_rowBefore g _ (List.pairwise_lt_finRange 64)
    funext i
    have get : ∀ (l l' : List (Fin 64)) (hl : l.length = 64) (hl' : l'.length = 64), l = l' →
        l.get (i.cast hl.symm) = l'.get (i.cast hl'.symm) := by
      rintro l _ hl _ rfl
      rfl
    exact get _ _ (length_sortPositions 64 _) (length_sortPositions 64 _) this
  rw [e]
  have key := (rowBefore'_total g).sortedFrom_eq_of_prefix (by decide : 2 ≤ 64) ![p, q] (by
      intro a b hab
      fin_cases a <;> fin_cases b <;> first | rfl | exact absurd hab.symm k.mem | exact absurd hab k.mem) (by
      intro a b hab
      fin_cases a <;> fin_cases b <;> first | exact absurd hab (by decide) | skip
      show rowBefore' g q p = false
      unfold rowBefore'
      refine decide_eq_false fun c => ?_
      rcases c with c | ⟨c, d⟩
      · exact absurd (h.le q trivial) (not_le.2 c)
      · exact (h.lt q trivial d).ne c) (by
      intro a r hr
      have hrp : r ≠ p := fun c => hr 0 c.symm
      have hrq : r ≠ q := fun c => hr 1 c.symm
      fin_cases a
      · show rowBefore' g r p = false
        unfold rowBefore'
        refine decide_eq_false fun c => ?_
        rcases c with c | ⟨c, d⟩
        · exact absurd (h.le r trivial) (not_le.2 c)
        · exact (h.lt r trivial d).ne c
      · show rowBefore' g r q = false
        unfold rowBefore'
        refine decide_eq_false fun c => ?_
        rcases c with c | ⟨c, d⟩
        · exact absurd (k.le r hrp) (not_le.2 c)
        · exact (k.lt r hrp d).ne c)
  exact ⟨key 0, key 1⟩

/-! ## The two agree -/

/-- The row that holds the entries at the sort's first two places and zero elsewhere. -/
def rowSorted (g : Fin 64 → EReal) (j : Fin 64) : EReal :=
  if j = sortedFrom (rowBefore g) 1 then g (sortedFrom (rowBefore g) 1)
  else if j = sortedFrom (rowBefore g) 0 then g (sortedFrom (rowBefore g) 0) else 0

/-- A quotient by an infinite number is zero. -/
theorem div_infinite {x y : EReal} (h : y = ⊤ ∨ y = ⊥) : Ideal.div x y = 0 := by
  unfold Ideal.div
  rcases h with rfl | rfl <;> simp

/-- A zero over a number that is not zero is zero. -/
theorem zero_div_of_ne {y : EReal} (h : y ≠ 0) : Ideal.div 0 y = 0 := by
  unfold Ideal.div
  rw [if_neg h, zero_mul]

/-- The sum of the sorted row's weights is the sum of its two entries. -/
theorem sum_rowSorted {g : Fin 64 → EReal} {p q : Fin 64} (h : FirstMax (fun _ => True) g p) (k : FirstMax (· ≠ p) g q) :
    ∑ j, rowSorted g j = g p + g q := by
  have e : ∀ j, rowSorted g j = (if j = p then g p else 0) + (if j = q then g q else 0) := fun j => by
    unfold rowSorted
    rw [(sortedFrom_rowBefore h k).1, (sortedFrom_rowBefore h k).2]
    by_cases e : j = q
    · subst e; rw [if_pos rfl, if_neg k.mem, if_pos rfl, zero_add]
    · rw [if_neg e, if_neg e, add_zero]
  simp only [e, Finset.sum_add_distrib, Finset.sum_ite_eq', Finset.mem_univ, if_true]

/-- The weights by the rounds are the sorted row's weights over their sum and `ε`, whatever the entries. -/
theorem rowRounds_eq (ε : ℝ) (g : Fin 64 → EReal) (j : Fin 64) :
    rowRounds (ε : EReal) g j = Ideal.div (rowSorted g j) (∑ j, rowSorted g j + (ε : EReal)) := by
  obtain ⟨p, h⟩ := FirstMax.exists_of g (S := fun _ => True) ⟨0, trivial⟩
  obtain ⟨q, k⟩ := FirstMax.exists_of g (S := (· ≠ p)) ⟨if p = 0 then 1 else 0, by
    split
    · next e => rw [e]; decide
    · next e => exact fun c => e c.symm⟩
  rw [sum_rowSorted h k]
  unfold rowRounds
  rw [rowMax_eq h, rowMax_rest h k, rowArg_eq h]
  by_cases hq : g q = ⊥
  · rw [hq, EReal.add_bot, EReal.bot_add, div_infinite (Or.inr rfl), div_infinite (Or.inr rfl)]
  · rw [rowArg_rest h k hq]
    congr 1
    unfold rowSorted
    rw [(sortedFrom_rowBefore h k).1, (sortedFrom_rowBefore h k).2]
    simp only [place_inj]
    by_cases e : j = p
    · subst e; rw [if_pos rfl, if_neg k.mem.symm, if_pos rfl]
    · rw [if_neg e, if_neg e]

/-- A row of infinities and zeros has only zero weights. -/
theorem rowRounds_zero {ε : ℝ} (hε : 0 < ε) {g : Fin 64 → EReal} (hg : ∀ j, g j = ⊤ ∨ g j = ⊥ ∨ g j = 0) (j : Fin 64) :
    rowRounds (ε : EReal) g j = 0 := by
  obtain ⟨p, h⟩ := FirstMax.exists_of g (S := fun _ => True) ⟨0, trivial⟩
  obtain ⟨q, k⟩ := FirstMax.exists_of g (S := (· ≠ p)) ⟨if p = 0 then 1 else 0, by
    split
    · next e => rw [e]; decide
    · next e => exact fun c => e c.symm⟩
  unfold rowRounds
  rw [rowMax_eq h, rowMax_rest h k]
  have e : ∀ a b : EReal, (a = ⊤ ∨ a = ⊥ ∨ a = 0) → (b = ⊤ ∨ b = ⊥ ∨ b = 0) → (a = 0 ∧ b = 0) ∨ (a + b + (ε : EReal) = ⊤ ∨ a + b + (ε : EReal) = ⊥) := by
    rintro a b (rfl | rfl | rfl) (rfl | rfl | rfl) <;> simp
  rcases e _ _ (hg p) (hg q) with ⟨e1, e2⟩ | e1
  · rw [e1, e2]
    have : (0 : EReal) + 0 + (ε : EReal) ≠ 0 := by
      rw [zero_add, zero_add]
      exact_mod_cast hε.ne'
    rw [ite_self, ite_self, zero_div_of_ne this]
  · exact div_infinite e1

end Router
end
-- ==== Proof.RowNet.lean ====
module

public import proofs.«01_k».proof.Proof.RowGate
public import proofs.«01_k».proof.Proof.RowPick

@[expose] public section

set_option maxRecDepth 16384

noncomputable section

namespace Router

open Idealize.ShloMosaic

/-- The capacity of a row as the kernel computes it from the hidden row `h`: normalised with the variance from the
    squares, scaled and shifted, through the smooth rectifier by `erf`, a product with the weights, a logistic. -/
def capFast (a c ε : EReal) (h g β w : Fin 64 → EReal) (b2 : EReal) : EReal :=
  Ideal.logistic (∑ k, a * (normSq ε h k * g k + β k) * (1 + Ideal.erf ((normSq ε h k * g k + β k) * c)) * w k + b2)

/-- The capacity of a row as the reference computes it: the variance from the deviations, the rectifier by the
    complementary error function, the logistic written out. -/
def capPlain (a c ε : EReal) (h g β w : Fin 64 → EReal) (b2 : EReal) : EReal :=
  Ideal.div 1 (1 + Ideal.exp (-(∑ k, a * (normDev ε h k * g k + β k) * Ideal.erfc (-(normDev ε h k * g k + β k) * c) * w k + b2)))

/-- The two capacities agree. -/
theorem cap_eq (a c : EReal) (ε : ℝ) (h g β w : Fin 64 → EReal) (b2 : EReal) :
    capFast a c (ε : EReal) h g β w b2 = capPlain a c (ε : EReal) h g β w b2 := by
  unfold capFast capPlain Ideal.logistic
  simp only [gelu_eq, norm_eq]

/-- The two routings of a row agree: the kernel's two rounds over the gate with the temperature folded into the
    weights, and the reference's sorted pick over the plain gate; at an infinite temperature both are zero. -/
theorem row_eq {n : ℕ} (r : ℝ) {ε : ℝ} (hε : 0 < ε) (x : Fin n → EReal) (w : Fin 64 → Fin n → EReal) (l : Fin 64 → EReal)
    (cap : EReal) {t : EReal} (ht : 0 ≤ t) (j : Fin 64) :
    rowRounds (ε : EReal) (fun j => gateFolded r x (w j) (l j) cap t) j
      = Ideal.div (rowSorted (fun j => gatePlain r x (w j) (l j) cap t) j)
          (∑ j, rowSorted (fun j => gatePlain r x (w j) (l j) cap t) j + (ε : EReal)) := by
  rw [← rowRounds_eq]
  rcases eq_or_ne t ⊤ with e | e
  · subst e
    rw [rowRounds_zero hε (fun j => (gate_corner r x (w j) (l j) cap).1), rowRounds_zero hε (fun j => (gate_corner r x (w j) (l j) cap).2)]
  · lift t to ℝ using ⟨e, fun c => by rw [c] at ht; exact absurd ht (by simp)⟩
    simp only [gate_eq r x _ _ cap (EReal.coe_nonneg.1 ht)]

end Router
end
-- ==== Proof.KernelBlock.lean ====
module

public import proofs.«01_k».proof.Proof.RowNet
public import proofs.«01_k».proof.Proof.Ext
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Router

/-- Column `64 + k` of the 128 columns. -/
def hi (k : Fin 64) : Fin 128 := ⟨64 + k.val, by omega⟩

/-- Column `k` of the 128 columns. -/
def lo (k : Fin 64) : Fin 128 := ⟨k.val, by omega⟩

/-- The hidden row of the block: the product of row `r` with the last 64 columns, plus the first bias. -/
def hid (x : Vec Ideal S4096x768 .f32) (a : Vec Ideal S768x128 .f32) (b1 : Vec Ideal S1x64 .f32) (r : Fin 4096) (k : Fin 64) : EReal :=
  ∑ d : Fin 768, x (ix2 r d) * a (ix2 d (hi k)) + b1 (ix2 0 k)

/-- The fused product of a block, at an element. -/
theorem pay2_apply (x : Vec Ideal S4096x768 .f32) (a : Vec Ideal S768x128 .f32) (r : Fin 4096) (c : Fin 128) :
    k0_pay2 x a (ix2 r c) = ∑ d : Fin 768, x (ix2 r d) * a (ix2 d c) := by
  pointwise [k0_pay2]

/-- Its first 64 columns. -/
theorem pay3_apply (x : Vec Ideal S4096x768 .f32) (a : Vec Ideal S768x128 .f32) (r : Fin 4096) (j : Fin 64) :
    k0_pay3 x a (ix2 r j) = ∑ d : Fin 768, x (ix2 r d) * a (ix2 d (lo j)) := by
  rw [show lo j = (⟨j.val, by omega⟩ : Fin 128) from rfl, ← pay2_apply]
  pointwise [k0_pay3]

/-- A select on the bit of a proposition is the `if` on it. -/
theorem select_decide' (p : Prop) [Decidable p] (x y : EReal) : Scalar.select (BitVec.ofBool (decide p)) x y = if p then x else y := by
  by_cases h : p <;> simp [h, Scalar.select]

/-- The places of a row, as numbers. -/
theorem pay9_apply (r : Fin 4096) (c : Fin 64) :
    k0_pay9 (F := Ideal) (ix2 r c) = ((c.val : ℝ) : EReal) := by
  pointwise [k0_pay9]
  show (((BitVec.ofNat 32 c.val).toInt : ℝ) : EReal) = _
  have e : (BitVec.ofNat 32 c.val).toNat = c.val := by rw [BitVec.toNat_ofNat]; omega
  rw [BitVec.toInt_eq_toNat_of_lt (by rw [e]; omega), e]
  norm_num

/-- The averaging matrix the kernel multiplies with: `1/64` on the two diagonal quarters, zero off them. -/
structure Averages (m : Vec Ideal S128x128 .f32) : Prop where
  ll : ∀ k j : Fin 64, m (ix2 (lo k) (lo j)) = ((1 / 64 : ℝ) : EReal)
  lh : ∀ k j : Fin 64, m (ix2 (lo k) (hi j)) = 0
  hl : ∀ k j : Fin 64, m (ix2 (hi k) (lo j)) = 0
  hh : ∀ k j : Fin 64, m (ix2 (hi k) (hi j)) = ((1 / 64 : ℝ) : EReal)

/-- The normalised hidden row, scaled and shifted. -/
theorem pay4_apply (x : Vec Ideal S4096x768 .f32) (a : Vec Ideal S768x128 .f32) (b1 : Vec Ideal S1x64 .f32) {m : Vec Ideal S128x128 .f32}
    (hm : Averages m) (g b : Vec Ideal S1x64 .f32) (r : Fin 4096) (j : Fin 64) :
    k0_pay4 x a b1 m g b (ix2 r j)
      = normSq (Ideal.ofBits .f32 0x3727C5AC#32) (hid x a b1 r) j * g (ix2 0 j) + b (ix2 0 j) := by
  pointwise [k0_pay4]
  simp only [← show ∀ k : Fin 64, lo k = (⟨k.val, by omega⟩ : Fin 128) from fun _ => rfl,
    ← show ∀ k : Fin 64, hi k = (⟨64 + k.val, by omega⟩ : Fin 128) from fun _ => rfl, hm.ll, hm.lh, hm.hl, hm.hh, pay2_apply,
    mul_zero, Finset.sum_const_zero, add_zero, zero_add]
  rfl

/-- Half the normalised row. -/
theorem pay5_apply (x : Vec Ideal S4096x768 .f32) (a : Vec Ideal S768x128 .f32) (b1 : Vec Ideal S1x64 .f32) (m : Vec Ideal S128x128 .f32)
    (g b : Vec Ideal S1x64 .f32) (r : Fin 4096) (j : Fin 64) :
    k0_pay5 x a b1 m g b (ix2 r j) = Ideal.ofBits .f32 0x3F000000#32 * k0_pay4 x a b1 m g b (ix2 r j) := by
  pointwise [k0_pay5]

/-- The error function of the scaled normalised row. -/
theorem pay6_apply (x : Vec Ideal S4096x768 .f32) (a : Vec Ideal S768x128 .f32) (b1 : Vec Ideal S1x64 .f32) (m : Vec Ideal S128x128 .f32)
    (g b : Vec Ideal S1x64 .f32) (r : Fin 4096) (j : Fin 64) :
    k0_pay6 x a b1 m g b (ix2 r j) = Ideal.erf (k0_pay4 x a b1 m g b (ix2 r j) * Ideal.ofBits .f32 0x3F3504F3#32) := by
  pointwise [k0_pay6]
  rfl

/-- One, everywhere. -/
theorem pay7_apply (r : Fin 4096) (j : Fin 64) : k0_pay7 (F := Ideal) (ix2 r j) = 1 := by
  pointwise [k0_pay7]
  try exact lit_one

/-- The gated row: the biased gate times the row's capacity. -/
theorem pay8_apply (x : Vec Ideal S4096x768 .f32) (a : Vec Ideal S768x128 .f32) (b1 : Vec Ideal S1x64 .f32) {m : Vec Ideal S128x128 .f32}
    (hm : Averages m) (g b : Vec Ideal S1x64 .f32) (w : Vec Ideal S64x64 .f32) (b2 l : Vec Ideal S1x64 .f32) (r : Fin 4096) (j : Fin 64) :
    k0_pay8 (k0_pay3 x a) (k0_pay5 x a b1 m g b) (k0_pay6 x a b1 m g b) k0_pay7 w b2 l (ix2 r j)
      = (∑ d : Fin 768, x (ix2 r d) * a (ix2 d (lo j)) + l (ix2 0 j))
          * capFast (Ideal.ofBits .f32 0x3F000000#32) (Ideal.ofBits .f32 0x3F3504F3#32) (Ideal.ofBits .f32 0x3727C5AC#32)
              (hid x a b1 r) (fun k => g (ix2 0 k)) (fun k => b (ix2 0 k)) (fun k => w (ix2 k j)) (b2 (ix2 0 j)) := by
  pointwise [k0_pay8]
  simp only [pay3_apply, pay5_apply, pay6_apply, pay7_apply, pay4_apply x a b1 hm g b]
  rfl

section Pick

variable (v4 v36 v39 v40 : FVec Ideal S4096x64 .f32) (v43 : Vec Ideal S64x64 .f32) (v46 v52 : Vec Ideal S1x64 .f32) (r : Fin 4096)

/-- The gated row `r`. -/
abbrev gated (j : Fin 64) : EReal := k0_pay8 v4 v36 v39 v40 v43 v46 v52 (ix2 r j)

/-- The first round's maximum. -/
theorem pay10_apply : k0_pay10 v4 v36 v39 v40 v43 v46 v52 (ix2 r 0) = rowMax (gated v4 v36 v39 v40 v43 v46 v52 r) := by
  unfold rowMax gated
  rw [← lit_bot]
  pointwise [k0_pay10]

/-- The first round's mark: the place of the first greatest entry. -/
theorem pay11_apply (j : Fin 64) : k0_pay11 v4 v36 v39 v40 v43 v46 v52 (ix2 r j)
    = BitVec.ofBool (decide (((j.val : ℝ) : EReal) = rowArg (gated v4 v36 v39 v40 v43 v46 v52 r))) := by
  unfold rowArg gated
  pointwise [k0_pay11]
  simp only [pay9_apply, pay10_apply, lit_top, lit_64]

/-- The row without the first place picked. -/
theorem pay12_apply (j : Fin 64) :
    k0_pay12 v4 v36 v39 v40 v43 v46 v52 (ix2 r j) = rowRest (gated v4 v36 v39 v40 v43 v46 v52 r) j := by
  unfold rowRest gated
  pointwise [k0_pay12]
  simp only [pay11_apply, lit_bot, select_decide']

/-- The second round's maximum. -/
theorem pay13_apply : k0_pay13 v4 v36 v39 v40 v43 v46 v52 (ix2 r 0) = rowMax (rowRest (gated v4 v36 v39 v40 v43 v46 v52 r)) := by
  unfold rowMax
  simp only [← pay12_apply]
  rw [← lit_bot]
  pointwise [k0_pay13]

/-- The second round's pick: its maximum at the place marked, zero elsewhere. -/
theorem pay14_apply (j : Fin 64) : k0_pay14 v4 v36 v39 v40 v43 v46 v52 (ix2 r j)
    = if ((j.val : ℝ) : EReal) = rowArg (rowRest (gated v4 v36 v39 v40 v43 v46 v52 r))
        then rowMax (rowRest (gated v4 v36 v39 v40 v43 v46 v52 r)) else 0 := by
  unfold rowArg
  pointwise [k0_pay14]
  simp only [pay9_apply, pay12_apply, pay13_apply, lit_top, lit_64, lit_zero]
  try rfl

/-- What the block stores: the two picks over their sum. -/
theorem pay1_apply (j : Fin 64) :
    k0_pay1 (k0_pay10 v4 v36 v39 v40 v43 v46 v52) (k0_pay11 v4 v36 v39 v40 v43 v46 v52) (k0_pay13 v4 v36 v39 v40 v43 v46 v52)
        (k0_pay14 v4 v36 v39 v40 v43 v46 v52) (ix2 r j)
      = rowRounds (Ideal.ofBits .f32 0x358637BD#32) (gated v4 v36 v39 v40 v43 v46 v52 r) j := by
  unfold rowRounds
  pointwise [k0_pay1]
  simp only [pay10_apply, pay11_apply, pay13_apply, pay14_apply, select_decide']

end Pick

end Cert.KernelIdeal.Block
end
-- ==== Proof.KernelOut.lean ====
module

public import proofs.«01_k».proof.Proof.KernelBlock
public import proofs.«01_k».proof.Proof.Gen.KernelIdeal.Frame
public import Idealize.ShloMosaic.Lib.Pipeline.Value

@[expose] public section

set_option maxRecDepth 16384

noncomputable section

namespace Cert.KernelIdeal.Block

open Idealize.ShloMosaic Cert.KernelIdeal Cert.KernelIdeal.Gen Router

/-- Zero offsets, spelt as a vector. -/
theorem zeros2 : (![0, 0] : Fin 2 → Nat) = fun _ => 0 := funext fun a => by fin_cases a <;> rfl

/-- A load of the first 64 columns of row `n` of the parameters reads that row. -/
theorem ld_row (p : Vec Ideal S8x128 .f32) (n : Fin 8) (inb : ∀ a, (![n.val, 0] : Fin 2 → Nat) a + S1x64.size a ≤ S8x128.size a) (k : Fin 64) :
    View.ld p (Rect.unit (s := S8x128) ![n.val, 0] S1x64.size inb) (ix2 (0 : Fin 1) k) = p (ix2 n (lo k)) := by
  rw [View.ld_unit]
  show p _ = p _
  congr 1
  funext a
  match a with
  | ⟨0, _⟩ => exact Fin.ext (by show n.val + 0 = n.val; omega)
  | ⟨1, _⟩ => exact Fin.ext (by show 0 + k.val = k.val; omega)

/-- The gated row `r` of a block, of the block `x`, the fused weights `a`, the capacity weights `w` and the parameter
    rows: first bias, scale, shift, second bias and gate bias in rows 0, 1, 2, 5 and 4. -/
def blockRow (x : Vec Ideal S4096x768 .f32) (a : Vec Ideal S768x128 .f32) (w : Vec Ideal S64x64 .f32) (p : Vec Ideal S8x128 .f32)
    (r : Fin 4096) (j : Fin 64) : EReal :=
  (∑ d : Fin 768, x (ix2 r d) * a (ix2 d (lo j)) + p (ix2 4 (lo j)))
    * capFast (Ideal.ofBits .f32 0x3F000000#32) (Ideal.ofBits .f32 0x3F3504F3#32) (Ideal.ofBits .f32 0x3727C5AC#32)
        (fun k => ∑ d : Fin 768, x (ix2 r d) * a (ix2 d (hi k)) + p (ix2 0 (lo k)))
        (fun k => p (ix2 1 (lo k))) (fun k => p (ix2 2 (lo k))) (fun k => w (ix2 k j)) (p (ix2 5 (lo j)))

/-- What a grid point stores, at an element: the two rounds over its gated row. -/
theorem out_apply (x : Vec Ideal S4096x768 .f32) (a : Vec Ideal S768x128 .f32) {m : Vec Ideal S128x128 .f32} (hm : Averages m)
    (w : Vec Ideal S64x64 .f32) (p : Vec Ideal S8x128 .f32) (r : Fin 4096) (j : Fin 64) :
    out0_5 x a m w p (ix2 r j) = rowRounds (Ideal.ofBits .f32 0x358637BD#32) (blockRow x a w p r) j := by
  unfold_out out0_5
  rw [View.canon_unit_zero zeros2]
  have l0 : View.ld x r0_0 = x := View.ld_unit_zero zeros2 _ x
  have l1 : View.ld a r0_1 = a := View.ld_unit_zero zeros2 _ a
  have l3 : View.ld m r0_3 = m := View.ld_unit_zero zeros2 _ m
  have l6 : View.ld w r0_6 = w := View.ld_unit_zero zeros2 _ w
  simp only [l0, l1, l3, l6]
  rw [pay1_apply]
  congr 1
  funext k
  show k0_pay8 _ _ _ _ _ _ _ (ix2 r k) = _
  rw [pay8_apply x a _ hm]
  unfold blockRow hid
  have e0 := fun k => ld_row p 0 inb_S8x128_S1x64_0_0 k
  have e1 := fun k => ld_row p 1 inb_S8x128_S1x64_1_0 k
  have e2 := fun k => ld_row p 2 inb_S8x128_S1x64_2_0 k
  have e4 := fun k => ld_row p 4 inb_S8x128_S1x64_4_0 k
  have e5 := fun k => ld_row p 5 inb_S8x128_S1x64_5_0 k
  simp only [← e0, ← e1, ← e2, ← e4, ← e5]
  rfl

end Cert.KernelIdeal.Block
end
-- ==== Proof.Spec.lean ====
module

public import proofs.«01_k».proof.Proof.RowNet
public import proofs.«01_k».proof.Proof.Ext
public import Idealize.ShloMosaic.Lib.Pointwise

@[expose] public section

set_option maxRecDepth 16384

noncomputable section

namespace Router

open Idealize.ShloMosaic

/-- The single-precision tenth, a positive number. -/
def tenth : ℝ := lit_tenth.choose

/-- The small number under the shares and under the picks' sum. -/
def tiny : ℝ := lit_eps6.choose

/-- The small number under the variance's root. -/
def slack : ℝ := lit_eps5.choose

theorem tenth_pos : 0 < tenth := lit_tenth.choose_spec.1
theorem lit_tenth_eq : Ideal.ofBits .f32 0x3DCCCCCD#32 = (tenth : EReal) := lit_tenth.choose_spec.2.1
theorem lit_tenth_neg : Ideal.ofBits .f32 0xBDCCCCCD#32 = ((-tenth : ℝ) : EReal) := lit_tenth.choose_spec.2.2
theorem tiny_pos : 0 < tiny := lit_eps6.choose_spec.1
theorem lit_tiny : Ideal.ofBits .f32 0x358637BD#32 = (tiny : EReal) := lit_eps6.choose_spec.2
theorem lit_slack : Ideal.ofBits .f32 0x3727C5AC#32 = (slack : EReal) := lit_eps5.choose_spec.2

/-- The shape of the parameter vectors' entries: a 64-vector. -/
abbrev V64 : Shape := ⟨1, ![64]⟩

/-- The shape of the tokens. -/
abbrev Tok : Shape := ⟨2, ![32768, 768]⟩

/-- The shape of the two weight matrices. -/
abbrev Wt : Shape := ⟨2, ![64, 768]⟩

/-- The shape of the second layer's weights. -/
abbrev W2 : Shape := ⟨2, ![1, 64]⟩

/-- The shape of the two scalars. -/
abbrev One : Shape := ⟨1, ![1]⟩

/-- The shape of the result. -/
abbrev Out : Shape := ⟨2, ![32768, 64]⟩

/-- The temperature, held above a tenth. -/
def warm (tmp : One.Idx → EReal) : EReal := max (Ideal.ofBits .f32 0x3DCCCCCD#32) (tmp (ix1 0))

/-- An expert's share of the usage. -/
def share (eu : V64.Idx → EReal) (j : Fin 64) : EReal := Ideal.div (eu (ix1 j)) (∑ k, eu (ix1 k) + Ideal.ofBits .f32 0x358637BD#32)

/-- The temperature is not negative. -/
theorem warm_nonneg (tmp : One.Idx → EReal) : 0 ≤ warm tmp := by
  unfold warm
  rw [lit_tenth_eq]
  exact le_max_of_le_left (EReal.coe_nonneg.2 tenth_pos.le)

variable (x : Tok.Idx → EReal) (gw w1 : Wt.Idx → EReal) (b1 g b : V64.Idx → EReal) (w2 : W2.Idx → EReal) (b2 tmp : One.Idx → EReal) (eu : V64.Idx → EReal)

/-- The hidden row of token `r`. -/
def hiddenRow (r : Fin 32768) (k : Fin 64) : EReal := ∑ d : Fin 768, x (ix2 r d) * w1 (ix2 k d) + b1 (ix1 k)

/-- The gated row of token `r` as the kernel computes it. -/
def fastRow (r : Fin 32768) (j : Fin 64) : EReal :=
  gateFolded tenth (fun d : Fin 768 => x (ix2 r d)) (fun d => gw (ix2 j d)) (share eu j)
    (capFast (Ideal.ofBits .f32 0x3F000000#32) (Ideal.ofBits .f32 0x3F3504F3#32) (slack : EReal) (hiddenRow x w1 b1 r) (fun k => g (ix1 k)) (fun k => b (ix1 k))
      (fun k => w2 (ix2 0 k)) (b2 (ix1 0))) (warm tmp)

/-- The gated row of token `r` as the reference computes it. -/
def plainRow (r : Fin 32768) (j : Fin 64) : EReal :=
  gatePlain tenth (fun d : Fin 768 => x (ix2 r d)) (fun d => gw (ix2 j d)) (share eu j)
    (capPlain (Ideal.ofBits .f32 0x3F000000#32) (Ideal.ofBits .f32 0x3F3504F3#32) (slack : EReal) (hiddenRow x w1 b1 r) (fun k => g (ix1 k)) (fun k => b (ix1 k))
      (fun k => w2 (ix2 0 k)) (b2 (ix1 0))) (warm tmp)

/-- The routing weights as the kernel computes them: two rounds of the greatest entry. -/
def fastOut : Out.Idx → EReal := fun i => rowRounds (tiny : EReal) (fastRow x gw w1 b1 g b w2 b2 tmp eu (i 0)) (i 1)

/-- The routing weights as the reference computes them: the sorted row's first two entries, over their sum. -/
def plainOut : Out.Idx → EReal := fun i =>
  Ideal.div (rowSorted (plainRow x gw w1 b1 g b w2 b2 tmp eu (i 0)) (i 1)) (∑ j, rowSorted (plainRow x gw w1 b1 g b w2 b2 tmp eu (i 0)) j + (tiny : EReal))

/-- THE EQUATION: the kernel's routing weights are the reference's, whatever the ten arguments hold. -/
theorem out_eq : fastOut x gw w1 b1 g b w2 b2 tmp eu = plainOut x gw w1 b1 g b w2 b2 tmp eu := by
  funext i
  unfold fastOut plainOut fastRow plainRow
  rw [← cap_eq]
  exact row_eq tenth tiny_pos _ _ _ _ (warm_nonneg tmp) (i 1)

end Router
end
-- ==== Proof.RowScatter.lean ====
module

public import Idealize.ShloMosaic.Lib.Routing.OpsOne

@[expose] public section

namespace Router

open Idealize.ShloMosaic Idealize.ShloMosaic.ValueIdx Idealize.ShloMosaic.Routing

/-- Entry `k` of a row written at a pair of index words, the second zero, lands at `(r, c)` exactly when the first word
    is `r` and `k` is `c`. -/
theorem row_lands {R C U w : Nat} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (c : Fin C)
    (h1 : (idx (ix1 (1 : Fin 2))).toInt = 0) :
    d.resultIdx? (ix1 k) idx = some (ix2 r c) ↔ (idx (ix1 (0 : Fin 2))).toInt = r.val ∧ k.val = c.val := by
  have w0 : d.window (ix1 k) 0 = 0 := by
    unfold ScatterDims.window
    rw [dif_neg fun h => (of_decide_eq_true (List.mem_filter.1 h).2) (by rw [hiw]; simp)]
  have w1 : d.window (ix1 k) 1 = k.val := by
    have hk : d.sKept = [1] := by
      show (shape2 R C).kept d.insertedWindowDims = [1]
      rw [hiw]; rfl
    unfold ScatterDims.window
    rw [dif_pos (by rw [hk]; simp)]
    exact congrArg (fun t => ((ix1 k : (shape1 U).Idx) t).val) (Subsingleton.elim (α := Fin 1) _ 0)
  rw [resultIdx?_ix2, start_pair d hsd hivd, start_pair d hsd hivd, w0, w1, h1]
  omega

/-- A vector written into row `i` of a matrix from its first column, read at `(r, c)`: the vector's entry `c` on that row
    where it has one, and the matrix elsewhere. -/
theorem row_set {α : Type} {R C U w : Nat} (d : ScatterDims (shape2 R C) (shape1 2) (shape1 U)) (hiw : d.insertedWindowDims = [0])
    (hsd : d.scatterDimsToOperandDims = [0, 1]) (hivd : d.indexVectorDim = 0) (x : (shape2 R C).Idx → α) (idx : IVec (shape1 2) w)
    (u : (shape1 U).Idx → α) (i : Nat) (h0 : (idx (ix1 (0 : Fin 2))).toInt = i) (h1 : (idx (ix1 (1 : Fin 2))).toInt = 0) (r : Fin R) (c : Fin C) :
    Host.scatter d (fun _ b => b) x idx u (ix2 r c) = if h : i = r.val ∧ c.val < U then u (ix1 ⟨c.val, h.2⟩) else x (ix2 r c) := by
  have lands : ∀ k : (shape1 U).Idx, d.resultIdx? k idx = some (ix2 r c) → i = r.val ∧ (k 0).val = c.val := fun k hk => by
    have := (row_lands d hiw hsd hivd idx (k 0) r c h1).1 ((congrArg (fun t => d.resultIdx? t idx) (eq_ix1 k).symm).trans hk)
    rw [h0] at this
    exact ⟨by exact_mod_cast this.1, this.2⟩
  split
  · next h =>
    refine scatter_set_hit d x idx u _ _ (fun k hk => ?_) (ix1 ⟨c.val, h.2⟩) ((row_lands d hiw hsd hivd idx _ r c h1).2 ⟨by rw [h0, h.1], rfl⟩)
    rw [eq_ix1 k]
    exact congrArg (fun e => u (ix1 e)) (Fin.ext (lands k hk).2)
  · next h =>
    refine scatter_set_miss d x idx u _ fun k hk => h ?_
    have hk0 : (k 0).val < U := (k 0).isLt
    exact ⟨(lands k hk).1, (lands k hk).2 ▸ hk0⟩

end Router
-- ==== Proof.HostPrep.lean ====
module

public import proofs.«01_k».proof.Proof.KernelBlock
public import proofs.«01_k».proof.Proof.Spec
public import proofs.«01_k».proof.Proof.RowScatter
public import proofs.«01_k».proof.Proof.Gen.KernelIdeal.Frame
public import Idealize.ShloMosaic.Lib.Pointwise

@[expose] public section

set_option maxRecDepth 16384

noncomputable section

namespace Cert.KernelIdeal.Prep

open Idealize.ShloMosaic Idealize.ShloMosaic.TcCoe Cert.KernelIdeal Cert.KernelIdeal.Gen Router
open Cert.KernelIdeal.Block (lo hi Averages)

/-! ## The prepared operands, as terms of the arguments -/

/-- The temperature, held above a tenth. -/
def temp (tmp : Vec Ideal S1 .f32) : Vec Ideal S_ .f32 :=
  shapeCast S_ (maximumf (F := Ideal) (φ := .f32) (broadcastInDim S1 ![] bcast_S_S1 (constant S_ .f32 0x3DCCCCCD#32)) tmp) shapeCasts_S1_S_

/-- The gate's weights times the temperature, beside the first layer's weights. -/
def fused (gw w1 : Vec Ideal S64x768 .f32) (tmp : Vec Ideal S1 .f32) : Vec Ideal S768x128 .f32 :=
  concatenate S768x128 1
    [⟨S768x64, mulf (F := Ideal) (φ := .f32) (transpose S768x64 [1, 0] gw transposes_S64x768_S768x64_1_0) (broadcastInDim S768x64 ![] bcast_S_S768x64 (temp tmp))⟩,
      ⟨S768x64, transpose S768x64 [1, 0] w1 transposes_S64x768_S768x64_1_0⟩] concatenates_S768x64_S768x64_S768x128_d1

/-- The gate's bias: minus a tenth of each expert's share of the usage, times the temperature. -/
def gateBias (eu : Vec Ideal S64 .f32) (tmp : Vec Ideal S1 .f32) : Vec Ideal S64 .f32 :=
  mulf (F := Ideal) (φ := .f32)
    (mulf (F := Ideal) (φ := .f32) (broadcastInDim S64 ![] bcast_S_S64 (constant S_ .f32 0xBDCCCCCD#32))
      (Host.divf (F := Ideal) (φ := .f32) eu (broadcastInDim S64 ![] bcast_S_S64
        (addf (F := Ideal) (φ := .f32) (Host.reduceAdd (F := Ideal) (φ := .f32) eu (constant S_ .f32 0x00000000#32) reducesTo_S64_S_d0 h_S_) (constant S_ .f32 0x358637BD#32)))))
    (broadcastInDim S64 ![] bcast_S_S64 (temp tmp))

/-- A 64×64 quarter of the averaging matrix: one over 64 everywhere. -/
def full : Vec Ideal S64x64 .f32 :=
  Host.divf (F := Ideal) (φ := .f32) (broadcastInDim S64x64 ![] bcast_S_S64x64 (constant S_ .f32 0x3F800000#32))
    (broadcastInDim S64x64 ![] bcast_S_S64x64 (constant S_ .f32 0x42800000#32))

/-- A 64×64 quarter of zeros. -/
def blank : Vec Ideal S64x64 .f32 := broadcastInDim S64x64 ![] bcast_S_S64x64 (constant (F := Ideal) S_ .f32 0x00000000#32)

/-- The averaging matrix, of its four quarters. -/
def averages : Vec Ideal S128x128 .f32 :=
  concatenate S128x128 0
    [⟨S64x128, concatenate S64x128 1 [⟨S64x64, full⟩, ⟨S64x64, blank⟩] concatenates_S64x64_S64x64_S64x128_d1⟩,
      ⟨S64x128, concatenate S64x128 1 [⟨S64x64, blank⟩, ⟨S64x64, full⟩] concatenates_S64x64_S64x64_S64x128_d1⟩] concatenates_S64x128_S64x128_S128x128_d0

/-- The second layer's weights, one copy per column. -/
def columns (w2 : Vec Ideal S1x64 .f32) : Vec Ideal S64x64 .f32 :=
  shapeCast S64x64 (broadcastInDim S1x64x64x1 ![0, 1, 2, 3] bcast_S1x64x1x1_S1x64x64x1_0_1_2_3
    (shapeCast S1x64x1x1 (broadcastInDim S64x1 ![0] bcast_S64_S64x1_0 (shapeCast S64 w2 shapeCasts_S1x64_S64)) shapeCasts_S64x1_S1x64x1x1)) shapeCasts_S1x64x64x1_S64x64

/-- A pair of index words, the second zero. -/
def pair (n : BitVec 32) : Vec Ideal S2 .i32 :=
  concatenate S2 0 [⟨S1, broadcastInDim S1 ![] bcast_S_S1 (constantI S_ 32 n)⟩, ⟨S1, broadcastInDim S1 ![] bcast_S_S1 (constantI S_ 32 0#32)⟩] concatenates_S1_S1_S2_d0

/-- The parameters with row `n` set, from its first column, to a vector. -/
def put (n : Fin 8) (x : Vec Ideal S8x128 .f32) (u : Vec Ideal S64 .f32) : Vec Ideal S8x128 .f32 :=
  Host.scatter scatter_S8x128_S2_S64_0_0_01_0 (fun _ b => b) x (pair (BitVec.ofNat 32 n.val)) u

/-- The parameters: zeros with rows 0, 1, 2, 4 and 5 set. -/
def params (b1 g b l : Vec Ideal S64 .f32) (b2 : Vec Ideal S1 .f32) : Vec Ideal S8x128 .f32 :=
  put 5 (put 4 (put 2 (put 1 (put 0 (broadcastInDim S8x128 ![] bcast_S_S8x128 (constant (F := Ideal) S_ .f32 0x00000000#32)) b1) g) b) l)
    (broadcastInDim S64 ![] bcast_S_S64 (shapeCast S_ b2 shapeCasts_S1_S_))

/-! ## The prepared operands, at an element -/

theorem fused_lo (gw w1 : Vec Ideal S64x768 .f32) (tmp : Vec Ideal S1 .f32) (d : Fin 768) (j : Fin 64) :
    fused gw w1 tmp (ix2 d (lo j)) = gw (ix2 j d) * warm tmp := by
  unfold warm lo
  pointwise [fused, temp]

theorem fused_hi (gw w1 : Vec Ideal S64x768 .f32) (tmp : Vec Ideal S1 .f32) (d : Fin 768) (j : Fin 64) :
    fused gw w1 tmp (ix2 d (hi j)) = w1 (ix2 j d) := by
  unfold hi
  pointwise [fused]

theorem full_apply (k j : Fin 64) : full (ix2 k j) = ((1 / 64 : ℝ) : EReal) := by
  pointwise [full]
  rw [lit_64, div_64, one_mul]

theorem blank_apply (k j : Fin 64) : blank (ix2 k j) = 0 := by
  pointwise [blank]

/-- The averaging matrix averages. -/
theorem averages_spec : Averages averages where
  ll k j := by rw [← full_apply k j]; unfold lo; pointwise [averages]
  lh k j := by rw [← blank_apply k j]; unfold lo hi; pointwise [averages]
  hl k j := by rw [← blank_apply k j]; unfold lo hi; pointwise [averages]
  hh k j := by rw [← full_apply k j]; unfold hi; pointwise [averages]

theorem columns_apply (w2 : Vec Ideal S1x64 .f32) (k j : Fin 64) : columns w2 (ix2 k j) = w2 (ix2 0 k) := by
  pointwise [columns]

theorem gateBias_apply (eu : Vec Ideal S64 .f32) (tmp : Vec Ideal S1 .f32) (j : Fin 64) :
    gateBias eu tmp (ix1 j) = Ideal.ofBits .f32 0xBDCCCCCD#32 * share eu j * warm tmp := by
  unfold share warm
  pointwise [gateBias, temp]

theorem pair_fst (n : BitVec 32) : pair n (ix1 0) = n := by
  pointwise [pair]

theorem pair_snd (n : BitVec 32) : pair n (ix1 1) = 0#32 := by
  pointwise [pair]

/-- The parameters with a row set, at an element of the first 64 columns. -/
theorem put_apply (n : Fin 8) (x : Vec Ideal S8x128 .f32) (u : Vec Ideal S64 .f32) (r : Fin 8) (k : Fin 64) :
    put n x u (ix2 r (lo k)) = if n.val = r.val then u (ix1 k) else x (ix2 r (lo k)) := by
  have hn : (pair (BitVec.ofNat 32 n.val) (ix1 0)).toInt = (n.val : Int) := by
    rw [pair_fst]; revert n; decide
  have hz : (pair (BitVec.ofNat 32 n.val) (ix1 1)).toInt = 0 := by rw [pair_snd]; decide
  refine (row_set scatter_S8x128_S2_S64_0_0_01_0 rfl rfl rfl x (pair (BitVec.ofNat 32 n.val)) u n.val hn hz r (lo k)).trans ?_
  have hk : (lo k).val < 64 := k.isLt
  by_cases h : n.val = r.val
  · rw [if_pos h, dif_pos ⟨h, hk⟩]; rfl
  · rw [if_neg h, dif_neg fun q => h q.1]; rfl

section Params

variable (b1 g b l : Vec Ideal S64 .f32) (b2 : Vec Ideal S1 .f32) (k : Fin 64)

theorem params_0 : params b1 g b l b2 (ix2 0 (lo k)) = b1 (ix1 k) := by
  unfold params
  rw [put_apply, if_neg (by decide), put_apply, if_neg (by decide), put_apply, if_neg (by decide), put_apply, if_neg (by decide), put_apply, if_pos (by decide)]

theorem params_1 : params b1 g b l b2 (ix2 1 (lo k)) = g (ix1 k) := by
  unfold params
  rw [put_apply, if_neg (by decide), put_apply, if_neg (by decide), put_apply, if_neg (by decide), put_apply, if_pos (by decide)]

theorem params_2 : params b1 g b l b2 (ix2 2 (lo k)) = b (ix1 k) := by
  unfold params
  rw [put_apply, if_neg (by decide), put_apply, if_neg (by decide), put_apply, if_pos (by decide)]

theorem params_4 : params b1 g b l b2 (ix2 4 (lo k)) = l (ix1 k) := by
  unfold params
  rw [put_apply, if_neg (by decide), put_apply, if_pos (by decide)]

theorem params_5 : params b1 g b l b2 (ix2 5 (lo k)) = b2 (ix1 0) := by
  unfold params
  rw [put_apply, if_pos (by decide)]
  pointwise

end Params

end Cert.KernelIdeal.Prep
end
-- ==== Proof.HostEntry.lean ====
module

public import proofs.«01_k».proof.Proof.HostPrep
public import proofs.«01_k».proof.Proof.Gen.KernelIdeal.Frame

@[expose] public section

set_option maxRecDepth 16384

noncomputable section

namespace Cert.KernelIdeal.Prep

open Idealize.ShloMosaic Idealize.ShloMosaic.TcCoe Cert.KernelIdeal Cert.KernelIdeal.Gen Router
open Cert.KernelIdeal.Block (lo hi Averages)

/-! ## The prepared operands when the grid starts -/

section Entry

variable (m : (ℓ : Loc nD τ sig) → Buf (Elt Ideal) ℓ) (c : Dev nD)

/-- The fused weights when the grid starts. -/
theorem entry_fused : V m c main_v10 = fused (m ((c : Thread nD τ).loc main_arg1)) (m ((c : Thread nD τ).loc main_arg2)) (m ((c : Thread nD τ).loc main_arg8)) := by
  show StableHlo.after (List.flatten [hostOps0, hostOps0_1, hostOps0_2, hostOps0_3, hostOps0_4]) (fun b => m (c, b)) (Proc.devRef .tc main_v10) = _
  simp only [List.flatten_cons, List.flatten_nil, List.append_nil, List.cons_append, List.nil_append]
  after_results_simp
  rfl

/-- The averaging matrix when the grid starts. -/
theorem entry_averages : V m c main_v19 = averages := by
  show StableHlo.after (List.flatten [hostOps0, hostOps0_1, hostOps0_2, hostOps0_3, hostOps0_4]) (fun b => m (c, b)) (Proc.devRef .tc main_v19) = _
  simp only [List.flatten_cons, List.flatten_nil, List.append_nil, List.cons_append, List.nil_append]
  after_results_simp
  rfl

/-- The second layer's weights when the grid starts. -/
theorem entry_columns : V m c main_v24 = columns (m ((c : Thread nD τ).loc main_arg6)) := by
  show StableHlo.after (List.flatten [hostOps0, hostOps0_1, hostOps0_2, hostOps0_3, hostOps0_4]) (fun b => m (c, b)) (Proc.devRef .tc main_v24) = _
  simp only [List.flatten_cons, List.flatten_nil, List.append_nil, List.cons_append, List.nil_append]
  after_results_simp
  rfl

/-- The parameters when the grid starts. -/
theorem entry_params : V m c main_v47 = params (m ((c : Thread nD τ).loc main_arg3)) (m ((c : Thread nD τ).loc main_arg4)) (m ((c : Thread nD τ).loc main_arg5))
    (gateBias (m ((c : Thread nD τ).loc main_arg9)) (m ((c : Thread nD τ).loc main_arg8))) (m ((c : Thread nD τ).loc main_arg7)) := by
  show StableHlo.after (List.flatten [hostOps0, hostOps0_1, hostOps0_2, hostOps0_3, hostOps0_4]) (fun b => m (c, b)) (Proc.devRef .tc main_v47) = _
  simp only [List.flatten_cons, List.flatten_nil, List.append_nil, List.cons_append, List.nil_append]
  after_results_simp
  rfl

end Entry

end Cert.KernelIdeal.Prep
end
-- ==== Proof.KernelValue.lean ====
module

public import proofs.«01_k».proof.Proof.KernelOut
public import proofs.«01_k».proof.Proof.HostEntry
public import proofs.«01_k».proof.Proof.Gen.KernelIdeal.Value

@[expose] public section

set_option maxRecDepth 16384

noncomputable section

namespace Cert.KernelIdeal.Whole

open Idealize.ShloMosaic Idealize.ShloMosaic.TcCoe Idealize.SL.Sem Cert.KernelIdeal Cert.KernelIdeal.Gen Router
open Idealize.ShloMosaic.Pipeline (Dat)
open Cert.KernelIdeal.Block Cert.KernelIdeal.Prep

variable (m : (ℓ : Loc nD τ sig) → Buf (Elt Ideal) ℓ) (ρ : Dev nD → PrngReg) (c : Dev nD)

/-- The block index maps: the tokens' and the result's rows move with the grid point, all else stays. -/
theorem idx : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = t.val ∧ win0_5.index t 1 = 0 := by decide +kernel

/-- Row `r` of point `t`'s block, in the whole array. -/
def at' (t : Fin grid0.N) (r : Fin 4096) : Fin 32768 := ⟨t.val * 4096 + r.val, by have h : t.val < 8 := lt_of_lt_of_eq t.isLt N_0; omega⟩

/-- The tokens' block at a point. -/
theorem tokens_blk (t : Fin cfg0.N) (r : Fin 4096) (d : Fin 768) :
    (iblk m c 0 t : Vec Ideal S4096x768 .f32) (ix2 r d) = (m ((c : Thread nD τ).loc main_arg0) : Vec Ideal S32768x768 .f32) (ix2 (at' t r) d) := by
  rw [← V_main_arg0 m c]
  show (V m c main_arg0) _ = (V m c main_arg0) _
  congr 1
  funext a
  match a with
  | ⟨0, _⟩ => exact Fin.ext (by show win0_0.index t 0 * 4096 + 1 * r.val = t.val * 4096 + r.val; rw [(idx t).1]; omega)
  | ⟨1, _⟩ => exact Fin.ext (by show win0_0.index t 1 * 768 + 1 * d.val = d.val; rw [(idx t).2.1]; omega)

/-- The fused weights' block is the whole array. -/
theorem fused_blk (t : Fin cfg0.N) : (iblk m c 1 t : Vec Ideal S768x128 .f32) = V m c main_v10 := by
  funext y
  show (V m c main_v10) _ = (V m c main_v10) _
  congr 1
  funext a
  match a with
  | ⟨0, _⟩ => exact Fin.ext (by show win0_1.index t 0 * 768 + 1 * (y 0).val = (y 0).val; rw [(idx t).2.2.1]; omega)
  | ⟨1, _⟩ => exact Fin.ext (by show win0_1.index t 1 * 128 + 1 * (y 1).val = (y 1).val; rw [(idx t).2.2.2.1]; omega)

/-- The averaging matrix's block is the whole array. -/
theorem averages_blk (t : Fin cfg0.N) : (iblk m c 2 t : Vec Ideal S128x128 .f32) = V m c main_v19 := by
  funext y
  show (V m c main_v19) _ = (V m c main_v19) _
  congr 1
  funext a
  match a with
  | ⟨0, _⟩ => exact Fin.ext (by show win0_2.index t 0 * 128 + 1 * (y 0).val = (y 0).val; rw [(idx t).2.2.2.2.1]; omega)
  | ⟨1, _⟩ => exact Fin.ext (by show win0_2.index t 1 * 128 + 1 * (y 1).val = (y 1).val; rw [(idx t).2.2.2.2.2.1]; omega)

/-- The second layer's block is the whole array. -/
theorem columns_blk (t : Fin cfg0.N) : (iblk m c 3 t : Vec Ideal S64x64 .f32) = V m c main_v24 := by
  funext y
  show (V m c main_v24) _ = (V m c main_v24) _
  congr 1
  funext a
  match a with
  | ⟨0, _⟩ => exact Fin.ext (by show win0_3.index t 0 * 64 + 1 * (y 0).val = (y 0).val; rw [(idx t).2.2.2.2.2.2.1]; omega)
  | ⟨1, _⟩ => exact Fin.ext (by show win0_3.index t 1 * 64 + 1 * (y 1).val = (y 1).val; rw [(idx t).2.2.2.2.2.2.2.1]; omega)

/-- The parameters' block is the whole array. -/
theorem params_blk (t : Fin cfg0.N) : (iblk m c 4 t : Vec Ideal S8x128 .f32) = V m c main_v47 := by
  funext y
  show (V m c main_v47) _ = (V m c main_v47) _
  congr 1
  funext a
  match a with
  | ⟨0, _⟩ => exact Fin.ext (by show win0_4.index t 0 * 8 + 1 * (y 0).val = (y 0).val; rw [(idx t).2.2.2.2.2.2.2.2.1]; omega)
  | ⟨1, _⟩ => exact Fin.ext (by show win0_4.index t 1 * 128 + 1 * (y 1).val = (y 1).val; rw [(idx t).2.2.2.2.2.2.2.2.2.1]; omega)

/-- The result array: the routing weights of the ten arguments. -/
abbrev G : Buf (Elt Ideal) ((c : Thread nD τ).loc main_v48) :=
  fastOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The gated row of a block, over the operands the host prepared, is the token's gated row. -/
theorem blockRow_eq (t : Fin cfg0.N) (r : Fin 4096) (j : Fin 64) :
    blockRow (iblk m c 0 t) (iblk m c 1 t) (iblk m c 3 t) (iblk m c 4 t) r j
      = fastRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (at' t r) j := by
  rw [fused_blk, columns_blk, params_blk, entry_fused, entry_columns, entry_params]
  unfold blockRow
  simp only [tokens_blk, fused_lo, fused_hi, columns_apply, params_0, params_1, params_2, params_4, params_5, gateBias_apply, lit_tenth_neg, lit_slack]
  rfl

/-- What a point stores, at an element: the token's routing weight. -/
theorem stored (t : Fin cfg0.N) (r : Fin 4096) (j : Fin 64) :
    out0_5 (iblk m c 0 t) (iblk m c 1 t) (iblk m c 2 t) (iblk m c 3 t) (iblk m c 4 t) (ix2 r j) = G m c (ix2 (at' t r) j) := by
  have hm : Averages (iblk m c 2 t) := by rw [averages_blk, entry_averages]; exact averages_spec
  refine (out_apply _ _ hm _ _ r j).trans ?_
  rw [lit_tiny]
  exact congrArg (fun f => rowRounds (tiny : EReal) f j) (funext fun j => blockRow_eq m c t r j)

/-- What a point writes back is its block of the routing weights. -/
theorem flushed_eq (t : Fin cfg0.N) : (dats m 0 c).flushed 5 t = (win0_5.blk t).view.read (Elt Ideal) (G m c) := by
  rw [Value.flushed5]
  funext y
  generalize hp : win0_5.xinj (grid0.coords t) y = p
  have e : (win0_5.rect t).emb y = ix2 (at' t (p 0)) (p 1) := by
    subst hp
    funext a
    match a with
    | ⟨0, _⟩ => exact Fin.ext (by show win0_5.index t 0 * 4096 + 1 * (y 0).val = t.val * 4096 + (y 0).val; rw [(idx t).2.2.2.2.2.2.2.2.2.2.1]; omega)
    | ⟨1, _⟩ => exact Fin.ext (by show win0_5.index t 1 * 64 + 1 * (y 1).val = (y 1).val; rw [(idx t).2.2.2.2.2.2.2.2.2.2.2]; omega)
  have q : p = ix2 (p 0) (p 1) := ValueIdx.eq_ix2 p
  refine Eq.trans (b := out0_5 (iblk m c 0 t) (iblk m c 1 t) (iblk m c 2 t) (iblk m c 3 t) (iblk m c 4 t) p) ?_ ?_
  · rw [← hp]
  · rw [q]
    exact (stored m c t (p 0) (p 1)).trans (congrArg (G m c) e).symm

/-- An index of the result is in point `t`'s block when its row is among the block's 4096. -/
theorem mem_blk (t : Fin cfg0.N) (i : S32768x64.Idx) :
    i ∈ ((cfg0.win 5).blk t).view.set ↔ t.val * 4096 ≤ (i 0).val ∧ (i 0).val < t.val * 4096 + 4096 := by
  show i ∈ ((View.whole main_v48).slice (win0_5.rect t)).set ↔ _
  rw [View.set_slice_whole, Rect.mem_set_unit]
  have h1 : (i 1).val < 64 := (i 1).isLt
  obtain ⟨_, _, _, _, _, _, _, _, _, _, e0, e1⟩ := idx t
  constructor
  · intro h
    have : win0_5.index t 0 * 4096 ≤ (i 0).val ∧ (i 0).val < win0_5.index t 0 * 4096 + 4096 := h 0
    rwa [e0] at this
  · intro h a
    match a with
    | ⟨0, _⟩ => show win0_5.index t 0 * 4096 ≤ (i 0).val ∧ (i 0).val < win0_5.index t 0 * 4096 + 4096
                rw [e0]; exact h
    | ⟨1, _⟩ => show win0_5.index t 1 * 64 ≤ (i 1).val ∧ (i 1).val < win0_5.index t 1 * 64 + 64
                rw [e1]; omega

/-- Every point writes its block back. -/
theorem flush5 : ∀ t : Fin cfg0.N, (cfg0.win 5).flush t = true := (by decide +kernel : ∀ t : Fin grid0.N, win0_5.flush t = true)

/-- The blocks cover the result. -/
theorem cover (i : S32768x64.Idx) : ∃ t : Fin cfg0.N, (cfg0.win 5).flush t = true ∧ i ∈ ((cfg0.win 5).blk t).view.set := by
  have h0 : (i 0).val < 32768 := (i 0).isLt
  refine ⟨⟨(i 0).val / 4096, (by show _ < grid0.N; rw [N_0]; omega)⟩, flush5 _, (mem_blk _ i).2 ?_⟩
  show (i 0).val / 4096 * 4096 ≤ (i 0).val ∧ (i 0).val < (i 0).val / 4096 * 4096 + 4096
  omega

/-- The result array after the run is the routing weights. -/
theorem final : (dats m 0 c).arrAt 5 cfg0.N = G m c := (dats m 0 c).arrAt_eq_of_cover 5 (G m c) (fun t _ => flushed_eq m c t) cover

end Cert.KernelIdeal.Whole
end
-- ==== Proof.RefRow.lean ====
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Row

open Idealize.ShloMosaic Cert.ReferenceIdeal Cert.ReferenceIdeal.Gen Cert.ReferenceIdeal.Read Router

variable (x : Vec Ideal S32768x768 .f32) (gw w1 : Vec Ideal S64x768 .f32) (b1 g b : Vec Ideal S64 .f32) (w2 : Vec Ideal S1x64 .f32)
  (b2 tmp : Vec Ideal S1 .f32) (eu : Vec Ideal S64 .f32) (r : Fin 32768)

/-- The hidden row. -/
theorem v6_at (k : Fin 64) : val_main_v6 (F := Ideal) x w1 b1 (ix2 r k) = hiddenRow x w1 b1 r k := by
  unfold hiddenRow
  pointwise [val_main_v6, val_main_v5, val_main_v4, val_main_v3, val_main_v2]

/-- Its mean. -/
theorem v10_at : val_main_v10 (F := Ideal) x w1 b1 (ix2 r 0) = mean (hiddenRow x w1 b1 r) := by
  unfold mean
  pointwise [val_main_v10, val_main_v9, val_main_v8, val_main_v7, val_main_cst, val_main_cst_0]
  simp only [v6_at, lit_64]

/-- The mean again, inside the variance. -/
theorem call0_v3_at : val_main_call0_v3 (F := Ideal) x w1 b1 (ix2 r 0) = mean (hiddenRow x w1 b1 r) := by
  unfold mean
  pointwise [val_main_call0_v3, val_main_call0_v2, val_main_call0_v1, val_main_call0_v0, val_main_call0_cst, val_main_call0_cst_0]
  simp only [v6_at, lit_64]

/-- The number the variance divides by. -/
theorem call0_v8_at (i : S_.Idx) : val_main_call0_v8 (F := Ideal) i = ((64 : ℝ) : EReal) := by
  show Ideal.ofBits .f32 0x42800000#32 - (((0#32 : BitVec 32).toInt : ℝ) : EReal) = _
  rw [lit_64]
  simp

/-- It is positive. -/
theorem call0_v13_at (i : S_.Idx) : val_main_call0_v13 (F := Ideal) i = 1#1 := by
  unfold val_main_call0_v13
  show Scalar.cmpf (F := Ideal) (φ := .f32) .ogt (val_main_call0_v8 (F := Ideal) i) (val_main_call0_cst_3 (F := Ideal) i) = 1#1
  rw [call0_v8_at]
  show Ideal.cmp .ogt ((64 : ℝ) : EReal) (Ideal.ofBits .f32 0x00000000#32) = 1#1
  rw [lit_zero]
  simp [Ideal.cmp]

/-- The variance. -/
theorem v11_at : val_main_v11 (F := Ideal) x w1 b1 (ix2 r 0) = varDev (hiddenRow x w1 b1 r) := by
  have e : val_main_v11 (F := Ideal) x w1 b1 (ix2 r 0) = val_main_call0_v12 (F := Ideal) x w1 b1 (ix2 r 0) := by
    unfold val_main_v11
    show Scalar.select (val_main_call0_v13 (F := Ideal) _) (val_main_call0_v12 (F := Ideal) x w1 b1 (ix2 r 0)) _ = _
    rw [call0_v13_at]
    rfl
  rw [e]
  unfold varDev
  pointwise [val_main_call0_v12, val_main_call0_v11, val_main_call0_v10, val_main_call0_v9, val_main_call0_v6, val_main_call0_v5, val_main_call0_v4, val_main_call0_cst_2]
  simp only [v6_at, call0_v3_at, call0_v8_at]

/-- The normalised row. -/
theorem v18_at (j : Fin 64) : val_main_v18 (F := Ideal) x w1 b1 (ix2 r j) = normDev (slack : EReal) (hiddenRow x w1 b1 r) j := by
  unfold normDev
  pointwise [val_main_v18, val_main_v17, val_main_v16, val_main_v15, val_main_v14, val_main_v13, val_main_v12, val_main_cst_1]
  simp only [v6_at, v10_at, v11_at, lit_slack]

/-- The normalised row scaled and shifted. -/
theorem v24_at (j : Fin 64) : val_main_v24 (F := Ideal) x w1 b1 g b (ix2 r j)
    = normDev (slack : EReal) (hiddenRow x w1 b1 r) j * g (ix1 j) + b (ix1 j) := by
  pointwise [val_main_v24, val_main_v23, val_main_v22, val_main_v21, val_main_v20, val_main_v19]
  simp only [v18_at]

/-- The row's capacity. -/
theorem v42_at : val_main_v42 (F := Ideal) x w1 b1 g b w2 b2 (ix2 r 0)
    = capPlain (Ideal.ofBits .f32 0x3F000000#32) (Ideal.ofBits .f32 0x3F3504F3#32) (slack : EReal) (hiddenRow x w1 b1 r) (fun k => g (ix1 k)) (fun k => b (ix1 k))
        (fun k => w2 (ix2 0 k)) (b2 (ix1 0)) := by
  unfold capPlain
  pointwise [val_main_v42, val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_cst_2, val_main_cst_3,
    val_main_cst_4, val_main_cst_5]
  simp only [v24_at, lit_one]

/-- The gated row. -/
theorem v57_at (j : Fin 64) : val_main_v57 (F := Ideal) x gw w1 b1 g b w2 b2 tmp eu (ix2 r j) = plainRow x gw w1 b1 g b w2 b2 tmp eu r j := by
  unfold plainRow gatePlain share warm
  pointwise [val_main_v57, val_main_v56, val_main_v55, val_main_v54, val_main_call1_v1, val_main_call1_v0, val_main_cst_9, val_main_v53, val_main_v52,
    val_main_v51, val_main_v50, val_main_v49, val_main_v48, val_main_v47, val_main_v46, val_main_v45, val_main_v44, val_main_v43, val_main_cst_6, val_main_cst_7,
    val_main_cst_8, val_main_v1, val_main_v0]
  simp only [v42_at, ← lit_tenth_eq]
  rfl

end Cert.ReferenceIdeal.Row
end
-- ==== Proof.RefPick.lean ====
module

public import proofs.«01_k».proof.Proof.RefRow
public import Idealize.ShloMosaic.Lib.ScatterToDense.RefScatter

@[expose] public section

set_option maxRecDepth 16384

noncomputable section

namespace Cert.ReferenceIdeal.Pick

open Idealize.ShloMosaic Cert.ReferenceIdeal Cert.ReferenceIdeal.Gen Cert.ReferenceIdeal.Read Router

/-- The sort's comparison of two extended reals, as a Boolean. -/
theorem before_eq (u v : EReal) : (FloatOps.cmpfTotal (F := Ideal) (φ := .f32) .gt u v == 1#1) = decide (v < u) := by
  rw [Ideal.cmpfTotal_def]
  show (Ideal.cmp .ogt u v == 1#1) = _
  by_cases h : v < u <;> simp [Ideal.cmp, h]

/-- Place `k` of the row an index lies in. -/
theorem along_eq (i : S32768x64.Idx) (k : Fin 64) : i.along (1 : Fin 2) k = (ix2 (i 0 : Fin 32768) k : S32768x64.Idx) := by
  funext a
  match a with
  | ⟨0, _⟩ => rfl
  | ⟨1, _⟩ => rfl

/-- A matrix and its places sorted together along the rows, greatest first, at an element. -/
theorem sort_at {β : Type} (v : Vec Ideal S32768x64 .f32) (y : S32768x64.Idx → β) (r : Fin 32768) (i : Fin 64) :
    (Host.sort2 S32768x64 1 (fun l r => FloatOps.cmpfTotal (F := Ideal) (φ := .f32) .gt l.1 r.1) v y).1 (ix2 r i)
        = v (ix2 r (sortedFrom (n := 64) (rowBefore fun j => v (ix2 r j)) i))
      ∧ (Host.sort2 S32768x64 1 (fun l r => FloatOps.cmpfTotal (F := Ideal) (φ := .f32) .gt l.1 r.1) v y).2 (ix2 r i)
        = y (ix2 r (sortedFrom (n := 64) (rowBefore fun j => v (ix2 r j)) i)) := by
  have e : (fun k k' : Fin 64 => (FloatOps.cmpfTotal (F := Ideal) (φ := .f32) .gt (v ((ix2 r i : S32768x64.Idx).along (1 : Fin 2) k))
      (v ((ix2 r i : S32768x64.Idx).along (1 : Fin 2) k')) == 1#1)) = rowBefore fun j => v (ix2 r j) := by
    funext k k'
    rw [before_eq, along_eq, along_eq]
    rfl
  have hd : 1 < S32768x64.rank := by decide
  unfold Host.sort2
  rw [dif_pos hd]
  constructor
  · show v ((ix2 r i : S32768x64.Idx).along (1 : Fin 2) (sortedFrom (n := 64) (fun k k' : Fin 64 => (FloatOps.cmpfTotal (F := Ideal) (φ := .f32) .gt (v ((ix2 r i : S32768x64.Idx).along (1 : Fin 2) k))
      (v ((ix2 r i : S32768x64.Idx).along (1 : Fin 2) k')) == 1#1)) i)) = _
    rw [e, along_eq]
    rfl
  · show y ((ix2 r i : S32768x64.Idx).along (1 : Fin 2) (sortedFrom (n := 64) (fun k k' : Fin 64 => (FloatOps.cmpfTotal (F := Ideal) (φ := .f32) .gt (v ((ix2 r i : S32768x64.Idx).along (1 : Fin 2) k))
      (v ((ix2 r i : S32768x64.Idx).along (1 : Fin 2) k')) == 1#1)) i)) = _
    rw [e, along_eq]
    rfl

/-- Place `i` of the first two, among the 64. -/
def of2 (i : Fin 2) : Fin 64 := ⟨i.val, by omega⟩

/-- The first two entries of each sorted row, and their places as words. -/
theorem topK_at (v : Vec Ideal S32768x64 .f32) (r : Fin 32768) (i : Fin 2) :
    (Host.topK S32768x2 1 (FloatOps.cmpfTotal (F := Ideal) (φ := .f32) .gt) v sliceFits_S32768x64_S32768x2).1 (ix2 r i)
        = v (ix2 r (sortedFrom (n := 64) (rowBefore fun j => v (ix2 r j)) (of2 i)))
      ∧ (Host.topK S32768x2 1 (FloatOps.cmpfTotal (F := Ideal) (φ := .f32) .gt) v sliceFits_S32768x64_S32768x2).2 (ix2 r i)
        = BitVec.ofNat 32 (sortedFrom (n := 64) (rowBefore fun j => v (ix2 r j)) (of2 i)).val := by
  have hs : ∀ {γ : Type} (f : S32768x64.Idx → γ), extractStridedSlice S32768x2 (fun _ => 0) f sliceFits_S32768x64_S32768x2 (ix2 r i) = f (ix2 r (of2 i)) := fun f => by
    show f _ = f _
    congr 1
    funext a
    match a with
    | ⟨0, _⟩ => exact Fin.ext (Nat.zero_add _)
    | ⟨1, _⟩ => exact Fin.ext (Nat.zero_add _)
  have hd : 1 < S32768x64.rank := by decide
  unfold Host.topK
  constructor
  · exact (hs _).trans (sort_at v (fun i => if hd : 1 < S32768x64.rank then iotaInDim S32768x64 32 ⟨1, hd⟩ i else 0#32) r (of2 i)).1
  · refine ((hs _).trans (sort_at v (fun i => if hd : 1 < S32768x64.rank then iotaInDim S32768x64 32 ⟨1, hd⟩ i else 0#32) r (of2 i)).2).trans ?_
    show dite (1 < S32768x64.rank) _ _ = _
    rw [dif_pos hd]
    rfl

variable (x : Vec Ideal S32768x768 .f32) (gw w1 : Vec Ideal S64x768 .f32) (b1 g b : Vec Ideal S64 .f32) (w2 : Vec Ideal S1x64 .f32)
  (b2 tmp : Vec Ideal S1 .f32) (eu : Vec Ideal S64 .f32) (r : Fin 32768)

/-- The gated row. -/
abbrev row (j : Fin 64) : EReal := plainRow x gw w1 b1 g b w2 b2 tmp eu r j

/-- The greatest two entries of the row. -/
theorem values_at (i : Fin 2) : val_main_values (F := Ideal) x gw w1 b1 g b w2 b2 tmp eu (ix2 r i)
    = row x gw w1 b1 g b w2 b2 tmp eu r (sortedFrom (n := 64) (rowBefore (row x gw w1 b1 g b w2 b2 tmp eu r)) (of2 i)) := by
  have e := (topK_at (val_main_v57 (F := Ideal) x gw w1 b1 g b w2 b2 tmp eu) r i).1
  simp only [Row.v57_at] at e
  exact e

/-- Their places, as words. -/
theorem indices_at (i : Fin 2) : val_main_indices (F := Ideal) x gw w1 b1 g b w2 b2 tmp eu (ix2 r i)
    = BitVec.ofNat 32 (sortedFrom (n := 64) (rowBefore (row x gw w1 b1 g b w2 b2 tmp eu r)) (of2 i)).val := by
  have e := (topK_at (val_main_v57 (F := Ideal) x gw w1 b1 g b w2 b2 tmp eu) r i).2
  simp only [Row.v57_at] at e
  exact e

/-- A small word is itself after the wrap of negative ones. -/
theorem wrap_small (n : Nat) (hn : n < 32768) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- The scatter's rows. -/
theorem v72_at (i : Fin 2) : val_main_v72 (F := Ideal) (ix3 r i 0) = BitVec.ofNat 32 r.val := by
  rw [val_main_v72_apply, val_main_v71_apply, val_main_v65_apply, val_main_v62_apply, val_main_v61_apply, val_main_c_11_apply, val_main_v59_apply, val_main_v58_apply]
  exact wrap_small r.val r.isLt _

/-- The scatter's columns. -/
theorem v73_at (i : Fin 2) : val_main_v73 (F := Ideal) x gw w1 b1 g b w2 b2 tmp eu (ix3 r i 0)
    = BitVec.ofNat 32 (sortedFrom (n := 64) (rowBefore (row x gw w1 b1 g b w2 b2 tmp eu r)) (of2 i)).val := by
  rw [val_main_v73_apply, val_main_v70_apply, val_main_v67_apply, val_main_v66_apply, val_main_c_13_apply,
    show idx_main_v73 (ix3 r i 0) = ix2 r i from funext fun a => match a with | ⟨0, _⟩ => rfl | ⟨1, _⟩ => rfl, indices_at]
  exact wrap_small _ (by omega) _

/-- The first word of an index pair is the row. -/
theorem v74_fst (i : Fin 2) : val_main_v74 (F := Ideal) x gw w1 b1 g b w2 b2 tmp eu (ix3 r i 0) = BitVec.ofNat 32 r.val := by
  rw [← v72_at r i]
  pointwise [val_main_v74]

/-- The second word is the column. -/
theorem v74_snd (i : Fin 2) : val_main_v74 (F := Ideal) x gw w1 b1 g b w2 b2 tmp eu (ix3 r i 1)
    = BitVec.ofNat 32 (sortedFrom (n := 64) (rowBefore (row x gw w1 b1 g b w2 b2 tmp eu r)) (of2 i)).val := by
  rw [← v73_at x gw w1 b1 g b w2 b2 tmp eu r i]
  pointwise [val_main_v74]

/-- The row that holds the two picks and zero elsewhere. -/
theorem v75_at (j : Fin 64) : val_main_v75 (F := Ideal) x gw w1 b1 g b w2 b2 tmp eu (ix2 r j) = rowSorted (row x gw w1 b1 g b w2 b2 tmp eu r) j := by
  have lt2 : ∀ n, n % 2 < 2 := fun n => Nat.mod_lt n (by decide)
  refine (ScatterToDense.scatter_eq_GS (T := 32768) (C := 64) (K := 2) scatter_S32768x64_S32768x2x2_S32768x2_n_01_01_2 rfl rfl rfl (by decide) (by decide)
    _ _ _ (fun r n => BitVec.ofNat 32 (sortedFrom (n := 64) (rowBefore (row x gw w1 b1 g b w2 b2 tmp eu r)) (of2 ⟨n % 2, lt2 n⟩)).val)
    (fun r n => row x gw w1 b1 g b w2 b2 tmp eu r (sortedFrom (n := 64) (rowBefore (row x gw w1 b1 g b w2 b2 tmp eu r)) (of2 ⟨n % 2, lt2 n⟩)))
    (fun i k => v74_fst x gw w1 b1 g b w2 b2 tmp eu i k) (fun i k => ?_) (fun i k => ?_) r j).trans ?_
  · refine (v74_snd x gw w1 b1 g b w2 b2 tmp eu i k).trans ?_
    rw [show (⟨k.val % 2, lt2 k.val⟩ : Fin 2) = k from Fin.ext (Nat.mod_eq_of_lt k.isLt)]
  · refine (values_at x gw w1 b1 g b w2 b2 tmp eu i k).trans ?_
    rw [show (⟨k.val % 2, lt2 k.val⟩ : Fin 2) = k from Fin.ext (Nat.mod_eq_of_lt k.isLt)]
  · have z : val_main_v60 (F := Ideal) (ix2 r j) = 0 := by
      pointwise [val_main_v60, val_main_cst_10]
    have w : ∀ p : Fin 64, (j.val = (BitVec.ofNat 32 p.val).toNat) = (j = p) := fun p => by
      rw [BitVec.toNat_ofNat, Nat.mod_eq_of_lt (by omega)]
      exact propext Fin.ext_iff.symm
    rw [ScatterToDense.GS_succ, ScatterToDense.GS_succ, ScatterToDense.GS_zero]
    unfold rowSorted
    simp only [w]
    refine congrArg₂ _ rfl ?_
    rw [← z]
    rfl

/-- THE REFERENCE'S RESULT is the routing weights of its ten arguments. -/
theorem v81_eq : val_main_v81 (F := Ideal) x gw w1 b1 g b w2 b2 tmp eu = plainOut x gw w1 b1 g b w2 b2 tmp eu := by
  funext i
  obtain ⟨r, j, rfl⟩ : ∃ (r : Fin 32768) (j : Fin 64), i = ix2 r j := ⟨i 0, i 1, ValueIdx.eq_ix2 i⟩
  show _ = Ideal.div (rowSorted (row x gw w1 b1 g b w2 b2 tmp eu r) j) (∑ j, rowSorted (row x gw w1 b1 g b w2 b2 tmp eu r) j + (tiny : EReal))
  pointwise [val_main_v81, val_main_v80, val_main_v79, val_main_v78, val_main_v77, val_main_v76, val_main_cst_15, val_main_cst_16]
  simp only [v75_at, lit_tiny]

end Cert.ReferenceIdeal.Pick
end
-- ==== Proof.lean ====
module

public import proofs.«01_k».proof.Proof.Gen.KernelIdeal.Value
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefPick
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed kernel runs, leaves its arguments and ends with every counter at zero. -/
theorem frame_kernel [Cert.Kernel.Facts] : Cert.quiescent_Kernel := fun m ρ _ => Cert.Kernel.Gen.frame m ρ

/-- The same of the kernel over the extended reals. -/
theorem frame_ideal [Cert.KernelIdeal.Facts] : Cert.quiescent_KernelIdeal := fun m ρ _ => Cert.KernelIdeal.Gen.frame m ρ

/-- The same of the reference, a host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was replaced. -/
theorem preserves : Cert.preserves_Kernel_KernelIdeal := trivial

/-- From equal arguments the kernel and the reference end at the same routing weights, whatever the arguments are. -/
theorem algebraic : Cert.algebraic_KernelIdeal_ReferenceIdeal := by
  intro m ρ m' ρ' _ hagree
  refine ⟨fun c => Cert.KernelIdeal.Whole.G m c, ?_, ?_⟩
  · exact (θ_run Cert.KernelIdeal.defs _ _).mono
      (fun _ h c => ⟨(h c).1.trans (Cert.KernelIdeal.Whole.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v81_eq, Cert.ReferenceIdeal.Pick.v81_eq, h0, h1, h2, h3, h4, h5, h6, h7, h8, h9]
    exact (Router.out_eq _ _ _ _ _ _ _ _ _ _).symm

/-- ALL THE CLAIMS of the certificate. -/
theorem claim : Cert.Claim := ⟨Cert.Kernel.Gen.facts, Cert.KernelIdeal.Gen.facts, Cert.ReferenceIdeal.Gen.facts,
  frame_kernel, frame_ideal, frame_reference, preserves, algebraic⟩

end Cert.Proof

end
